-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "invA" .f32 0x3BDA740E#32 ((150⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x150x128 : Shape := ⟨3, ![1024, 150, 128]⟩
abbrev S1024x50x128 : Shape := ⟨3, ![1024, 50, 128]⟩
abbrev S128x128 : Shape := ⟨2, ![128, 128]⟩
abbrev S128 : Shape := ⟨1, ![128]⟩
abbrev S256x128 : Shape := ⟨2, ![256, 128]⟩
abbrev S1024x150 : Shape := ⟨2, ![1024, 150]⟩
abbrev S1x128 : Shape := ⟨2, ![1, 128]⟩
abbrev S16x150 : Shape := ⟨2, ![16, 150]⟩
abbrev S16x150x128 : Shape := ⟨3, ![16, 150, 128]⟩
abbrev S16x50x128 : Shape := ⟨3, ![16, 50, 128]⟩
abbrev S150x128 : Shape := ⟨2, ![150, 128]⟩
abbrev S1x150 : Shape := ⟨2, ![1, 150]⟩
abbrev S1x150x128 : Shape := ⟨3, ![1, 150, 128]⟩
abbrev S1x50x128 : Shape := ⟨3, ![1, 50, 128]⟩
abbrev S50x128 : Shape := ⟨2, ![50, 128]⟩
abbrev S50x150 : Shape := ⟨2, ![50, 150]⟩

abbrev nBuf : Space → Nat
  | .hbm => 30
  | .vmem => 26
  | .smem => 0
  | _ => 0

abbrev bufTy : (tb : Table) → Fin (tcTables nBuf tb) → BufTy
  | .hbm, ⟨0, _⟩ => ⟨S1024x150x128, .f32⟩
  | .hbm, ⟨1, _⟩ => ⟨S1024x50x128, .f32⟩
  | .hbm, ⟨2, _⟩ => ⟨S1024x150x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1024x150, .i32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1024x150x128, .f32⟩
  | .hbm, ⟨29, _⟩ => ⟨S1024x50x128, .f32⟩
  | .local _ .vmem, ⟨0, _⟩ => ⟨S16x150, .i32⟩
  | .local _ .vmem, ⟨1, _⟩ => ⟨S16x150, .i32⟩
  | .local _ .vmem, ⟨2, _⟩ => ⟨S16x150x128, .f32⟩
  | .local _ .vmem, ⟨3, _⟩ => ⟨S16x150x128, .f32⟩
  | .local _ .vmem, ⟨4, _⟩ => ⟨S16x50x128, .f32⟩
  | .local _ .vmem, ⟨5, _⟩ => ⟨S16x50x128, .f32⟩
  | .local _ .vmem, ⟨6, _⟩ => ⟨S16x150x128, .f32⟩
  | .local _ .vmem, ⟨7, _⟩ => ⟨S16x150x128, .f32⟩
  | .local _ .vmem, ⟨8, _⟩ => ⟨S128x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S16x150x128, .f32⟩
  | .local _ .vmem, ⟨23, _⟩ => ⟨S16x150x128, .f32⟩
  | .local _ .vmem, ⟨24, _⟩ => ⟨S16x50x128, .f32⟩
  | .local _ .vmem, ⟨25, _⟩ => ⟨S16x50x128, .f32⟩
  | _, _ => ⟨S1024x150x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x150 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x150x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x150x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S16x150x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x50x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "invA" => some ((150⁻¹ : ℝ) : EReal)
  | _ => none
-- ==== ReferenceIdeal.lean ====
abbrev S1024x150x128 : Shape := ⟨3, ![1024, 150, 128]⟩
abbrev S1024x50x128 : Shape := ⟨3, ![1024, 50, 128]⟩
abbrev S128x128 : Shape := ⟨2, ![128, 128]⟩
abbrev S128 : Shape := ⟨1, ![128]⟩
abbrev S256x128 : Shape := ⟨2, ![256, 128]⟩
abbrev S1024x150 : Shape := ⟨2, ![1024, 150]⟩
abbrev S_ : Shape := ⟨0, ![]⟩
abbrev S1024x150x1 : Shape := ⟨3, ![1024, 150, 1]⟩
abbrev S1024 : Shape := ⟨1, ![1024]⟩
abbrev S1024x1 : Shape := ⟨2, ![1024, 1]⟩
abbrev S1024x150x2 : Shape := ⟨3, ![1024, 150, 2]⟩
abbrev S1024x50 : Shape := ⟨2, ![1024, 50]⟩
abbrev S1024x50x1 : Shape := ⟨3, ![1024, 50, 1]⟩
abbrev S1x1x128 : Shape := ⟨3, ![1, 1, 128]⟩
abbrev S1 : Shape := ⟨1, ![1]⟩
abbrev S1x1x1 : Shape := ⟨3, ![1, 1, 1]⟩
abbrev S1024x150x256 : Shape := ⟨3, ![1024, 150, 256]⟩
abbrev S1024x50x256 : Shape := ⟨3, ![1024, 50, 256]⟩
abbrev S1024x128 : Shape := ⟨2, ![1024, 128]⟩
abbrev S1024x1x128 : Shape := ⟨3, ![1024, 1, 128]⟩

abbrev nBuf : Space → Nat
  | .hbm => 373
  | .vmem => 0
  | .smem => 0
  | _ => 0

abbrev hbmTy0_0 (i : Nat) : BufTy := match i % 128 with
  | 0 => ⟨S1024x150x128, .f32⟩
  | 1 => ⟨S1024x50x128, .f32⟩
  | 2 => ⟨S1024x150x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S256x128, .f32⟩
  | 14 => ⟨S128, .f32⟩
  | 15 => ⟨S128, .f32⟩
  | 16 => ⟨S128, .f32⟩
  | 17 => ⟨S1024x150, .i32⟩
  | 18 => ⟨S_, .i32⟩
  | 19 => ⟨S1024x150, .i32⟩
  | 20 => ⟨S1024x150, .i1⟩
  | 21 => ⟨S_, .i32⟩
  | 22 => ⟨S1024x150, .i32⟩
  | 23 => ⟨S1024x150, .i1⟩
  | 24 => ⟨S1024x150, .i1⟩
  | 25 => ⟨S_, .i32⟩
  | 26 => ⟨S_, .i32⟩
  | 27 => ⟨S_, .i32⟩
  | 28 => ⟨S1024x150, .i32⟩
  | 29 => ⟨S1024x150, .i32⟩
  | 30 => ⟨S_, .i32⟩
  | 31 => ⟨S1024x150, .i32⟩
  | 32 => ⟨S1024x150, .i32⟩
  | 33 => ⟨S1024x150, .f32⟩
  | 34 => ⟨S1024x150x1, .f32⟩
  | 35 => ⟨S1024, .i32⟩
  | 36 => ⟨S1024x1, .i32⟩
  | 37 => ⟨S_, .f32⟩
  | 38 => ⟨S1024x50x128, .f32⟩
  | 39 => ⟨S1024x150x128, .f32⟩
  | 40 => ⟨S1024x150x128, .f32⟩
  | 41 => ⟨S_, .i32⟩
  | 42 => ⟨S1024x1, .i32⟩
  | 43 => ⟨S1024x1, .i1⟩
  | 44 => ⟨S_, .i32⟩
  | 45 => ⟨S1024x1, .i32⟩
  | 46 => ⟨S1024x1, .i32⟩
  | 47 => ⟨S1024x1, .i32⟩
  | 48 => ⟨S_, .i32⟩
  | 49 => ⟨S1024x150, .i32⟩
  | 50 => ⟨S1024x150, .i1⟩
  | 51 => ⟨S_, .i32⟩
  | 52 => ⟨S1024x150, .i32⟩
  | 53 => ⟨S1024x150, .i32⟩
  | 54 => ⟨S1024x150, .i32⟩
  | 55 => ⟨S1024x150, .i32⟩
  | 56 => ⟨S1024x150x1, .i32⟩
  | 57 => ⟨S1024x150x1, .i32⟩
  | 58 => ⟨S1024x150x2, .i32⟩
  | 59 => ⟨S1024x50x128, .f32⟩
  | 60 => ⟨S_, .f32⟩
  | 61 => ⟨S1024x50, .f32⟩
  | 62 => ⟨S1024x150, .f32⟩
  | 63 => ⟨S_, .i32⟩
  | 64 => ⟨S1024x1, .i32⟩
  | 65 => ⟨S1024x1, .i1⟩
  | 66 => ⟨S_, .i32⟩
  | 67 => ⟨S1024x1, .i32⟩
  | 68 => ⟨S1024x1, .i32⟩
  | 69 => ⟨S1024x1, .i32⟩
  | 70 => ⟨S_, .i32⟩
  | 71 => ⟨S1024x150, .i32⟩
  | 72 => ⟨S1024x150, .i1⟩
  | 73 => ⟨S_, .i32⟩
  | 74 => ⟨S1024x150, .i32⟩
  | 75 => ⟨S1024x150, .i32⟩
  | 76 => ⟨S1024x150, .i32⟩
  | 77 => ⟨S1024x150, .i32⟩
  | 78 => ⟨S1024x150x1, .i32⟩
  | 79 => ⟨S1024x150x1, .i32⟩
  | 80 => ⟨S1024x150x2, .i32⟩
  | 81 => ⟨S1024x50, .f32⟩
  | 82 => ⟨S_, .f32⟩
  | 83 => ⟨S_, .f32⟩
  | 84 => ⟨S1024x50, .f32⟩
  | 85 => ⟨S1024x50, .f32⟩
  | 86 => ⟨S1024x50x1, .f32⟩
  | 87 => ⟨S1024x50x128, .f32⟩
  | 88 => ⟨S1024x50x128, .f32⟩
  | 89 => ⟨S1024x50x128, .f32⟩
  | 90 => ⟨S1x1x128, .f32⟩
  | 91 => ⟨S1024x50x128, .f32⟩
  | 92 => ⟨S1024x50x128, .f32⟩
  | 93 => ⟨S_, .f32⟩
  | 94 => ⟨S1024x50, .f32⟩
  | 95 => ⟨S1024x50x1, .f32⟩
  | 96 => ⟨S_, .f32⟩
  | 97 => ⟨S1024x50x1, .f32⟩
  | 98 => ⟨S1024x50x1, .f32⟩
  | 99 => ⟨S_, .i32⟩
  | 100 => ⟨S_, .f32⟩
  | 101 => ⟨S1024x50, .f32⟩
  | 102 => ⟨S1024x50x1, .f32⟩
  | 103 => ⟨S_, .f32⟩
  | 104 => ⟨S1024x50x1, .f32⟩
  | 105 => ⟨S1024x50x1, .f32⟩
  | 106 => ⟨S1024x50x128, .f32⟩
  | 107 => ⟨S1024x50x128, .f32⟩
  | 108 => ⟨S1024x50x128, .f32⟩
  | 109 => ⟨S_, .f32⟩
  | 110 => ⟨S_, .f32⟩
  | 111 => ⟨S_, .f32⟩
  | 112 => ⟨S_, .f32⟩
  | 113 => ⟨S1024x50, .f32⟩
  | 114 => ⟨S1024x50x1, .f32⟩
  | 115 => ⟨S1024x50x1, .f32⟩
  | 116 => ⟨S1024x50x1, .f32⟩
  | 117 => ⟨S_, .f32⟩
  | 118 => ⟨S_, .i1⟩
  | 119 => ⟨S_, .f32⟩
  | 120 => ⟨S_, .f32⟩
  | 121 => ⟨S1024x50x1, .f32⟩
  | 122 => ⟨S1024x50x1, .f32⟩
  | 123 => ⟨S1024x50x128, .f32⟩
  | 124 => ⟨S1024x50x128, .f32⟩
  | 125 => ⟨S_, .f32⟩
  | 126 => ⟨S1024x50x1, .f32⟩
  | 127 => ⟨S1024x50x1, .f32⟩
  | _ => ⟨S1024x150x128, .f32⟩

abbrev hbmTy0_1 (i : Nat) : BufTy := match i % 128 with
  | 0 => ⟨S1024x50x1, .f32⟩
  | 1 => ⟨S1024x50x128, .f32⟩
  | 2 => ⟨S1024x50x128, .f32⟩
  | 3 => ⟨S1x1x128, .f32⟩
  | 4 => ⟨S1024x50x128, .f32⟩
  | 5 => ⟨S1024x50x128, .f32⟩
  | 6 => ⟨S1x1x128, .f32⟩
  | 7 => ⟨S1024x50x128, .f32⟩
  | 8 => ⟨S1024x50x128, .f32⟩
  | 9 => ⟨S_, .f32⟩
  | 10 => ⟨S1024x50x128, .f32⟩
  | 11 => ⟨S1024x50x128, .f32⟩
  | 12 => ⟨S1024x150x1, .i32⟩
  | 13 => ⟨S_, .i32⟩
  | 14 => ⟨S1024x150x1, .i32⟩
  | 15 => ⟨S1024x150x1, .i1⟩
  | 16 => ⟨S_, .i32⟩
  | 17 => ⟨S1024x150x1, .i32⟩
  | 18 => ⟨S1024x150x1, .i32⟩
  | 19 => ⟨S1024x150x1, .i32⟩
  | 20 => ⟨S1, .i32⟩
  | 21 => ⟨S_, .i32⟩
  | 22 => ⟨S1024x150x1, .i32⟩
  | 23 => ⟨S1024x150x1, .i1⟩
  | 24 => ⟨S1x1x1, .i32⟩
  | 25 => ⟨S1024x150x1, .i32⟩
  | 26 => ⟨S1024x150x1, .i1⟩
  | 27 => ⟨S1024x150x1, .i1⟩
  | 28 => ⟨S_, .i1⟩
  | 29 => ⟨S1024x150, .i1⟩
  | 30 => ⟨S1024x150x128, .f32⟩
  | 31 => ⟨S1024x150x128, .i1⟩
  | 32 => ⟨S_, .f32⟩
  | 33 => ⟨S1024x150x128, .f32⟩
  | 34 => ⟨S1024x150x128, .f32⟩
  | 35 => ⟨S1024x150x128, .f32⟩
  | 36 => ⟨S1024x150x128, .f32⟩
  | 37 => ⟨S1024x150x128, .f32⟩
  | 38 => ⟨S1x1x128, .f32⟩
  | 39 => ⟨S1024x150x128, .f32⟩
  | 40 => ⟨S1024x150x128, .f32⟩
  | 41 => ⟨S_, .f32⟩
  | 42 => ⟨S1024x150, .f32⟩
  | 43 => ⟨S1024x150x1, .f32⟩
  | 44 => ⟨S_, .f32⟩
  | 45 => ⟨S1024x150x1, .f32⟩
  | 46 => ⟨S1024x150x1, .f32⟩
  | 47 => ⟨S_, .i32⟩
  | 48 => ⟨S_, .f32⟩
  | 49 => ⟨S1024x150, .f32⟩
  | 50 => ⟨S1024x150x1, .f32⟩
  | 51 => ⟨S_, .f32⟩
  | 52 => ⟨S1024x150x1, .f32⟩
  | 53 => ⟨S1024x150x1, .f32⟩
  | 54 => ⟨S1024x150x128, .f32⟩
  | 55 => ⟨S1024x150x128, .f32⟩
  | 56 => ⟨S1024x150x128, .f32⟩
  | 57 => ⟨S_, .f32⟩
  | 58 => ⟨S_, .f32⟩
  | 59 => ⟨S_, .f32⟩
  | 60 => ⟨S_, .f32⟩
  | 61 => ⟨S1024x150, .f32⟩
  | 62 => ⟨S1024x150x1, .f32⟩
  | 63 => ⟨S1024x150x1, .f32⟩
  | 64 => ⟨S1024x150x1, .f32⟩
  | 65 => ⟨S_, .f32⟩
  | 66 => ⟨S_, .i1⟩
  | 67 => ⟨S_, .f32⟩
  | 68 => ⟨S_, .f32⟩
  | 69 => ⟨S1024x150x1, .f32⟩
  | 70 => ⟨S1024x150x1, .f32⟩
  | 71 => ⟨S1024x150x128, .f32⟩
  | 72 => ⟨S1024x150x128, .f32⟩
  | 73 => ⟨S_, .f32⟩
  | 74 => ⟨S1024x150x1, .f32⟩
  | 75 => ⟨S1024x150x1, .f32⟩
  | 76 => ⟨S1024x150x1, .f32⟩
  | 77 => ⟨S1024x150x128, .f32⟩
  | 78 => ⟨S1024x150x128, .f32⟩
  | 79 => ⟨S1x1x128, .f32⟩
  | 80 => ⟨S1024x150x128, .f32⟩
  | 81 => ⟨S1024x150x128, .f32⟩
  | 82 => ⟨S1x1x128, .f32⟩
  | 83 => ⟨S1024x150x128, .f32⟩
  | 84 => ⟨S1024x150x128, .f32⟩
  | 85 => ⟨S_, .f32⟩
  | 86 => ⟨S1024x150x128, .f32⟩
  | 87 => ⟨S1024x150x128, .f32⟩
  | 88 => ⟨S1024x150x256, .f32⟩
  | 89 => ⟨S1024x150x128, .f32⟩
  | 90 => ⟨S1x1x128, .f32⟩
  | 91 => ⟨S1024x150x128, .f32⟩
  | 92 => ⟨S1024x150x128, .f32⟩
  | 93 => ⟨S1024x150x128, .f32⟩
  | 94 => ⟨S1024x150x128, .f32⟩
  | 95 => ⟨S_, .f32⟩
  | 96 => ⟨S1024x150x128, .f32⟩
  | 97 => ⟨S1024x150x128, .f32⟩
  | 98 => ⟨S_, .f32⟩
  | 99 => ⟨S1024x150x128, .f32⟩
  | 100 => ⟨S1024x150x128, .f32⟩
  | 101 => ⟨S1024x150x128, .f32⟩
  | 102 => ⟨S_, .f32⟩
  | 103 => ⟨S1024x150x128, .f32⟩
  | 104 => ⟨S1024x150x128, .f32⟩
  | 105 => ⟨S1024x150x128, .f32⟩
  | 106 => ⟨S1024x150x128, .f32⟩
  | 107 => ⟨S1024x50x256, .f32⟩
  | 108 => ⟨S1024x50x128, .f32⟩
  | 109 => ⟨S1x1x128, .f32⟩
  | 110 => ⟨S1024x50x128, .f32⟩
  | 111 => ⟨S1024x50x128, .f32⟩
  | 112 => ⟨S1024x50x128, .f32⟩
  | 113 => ⟨S1024x50x128, .f32⟩
  | 114 => ⟨S_, .f32⟩
  | 115 => ⟨S1024x50x128, .f32⟩
  | 116 => ⟨S1024x50x128, .f32⟩
  | 117 => ⟨S_, .f32⟩
  | 118 => ⟨S1024x50x128, .f32⟩
  | 119 => ⟨S1024x50x128, .f32⟩
  | 120 => ⟨S1024x50x128, .f32⟩
  | 121 => ⟨S_, .f32⟩
  | 122 => ⟨S1024x50x128, .f32⟩
  | 123 => ⟨S1024x50x128, .f32⟩
  | 124 => ⟨S1024x50x128, .f32⟩
  | 125 => ⟨S1024x50x128, .f32⟩
  | 126 => ⟨S1024x150x256, .f32⟩
  | 127 => ⟨S1024x150x128, .f32⟩
  | _ => ⟨S1024x150x128, .f32⟩

abbrev hbmTy0_2 (i : Nat) : BufTy := match i % 128 with
  | 0 => ⟨S1x1x128, .f32⟩
  | 1 => ⟨S1024x150x128, .f32⟩
  | 2 => ⟨S1024x150x128, .f32⟩
  | 3 => ⟨S_, .f32⟩
  | 4 => ⟨S1024x150, .f32⟩
  | 5 => ⟨S1024x150x1, .f32⟩
  | 6 => ⟨S_, .f32⟩
  | 7 => ⟨S1024x150x1, .f32⟩
  | 8 => ⟨S1024x150x1, .f32⟩
  | 9 => ⟨S_, .i32⟩
  | 10 => ⟨S_, .f32⟩
  | 11 => ⟨S1024x150, .f32⟩
  | 12 => ⟨S1024x150x1, .f32⟩
  | 13 => ⟨S_, .f32⟩
  | 14 => ⟨S1024x150x1, .f32⟩
  | 15 => ⟨S1024x150x1, .f32⟩
  | 16 => ⟨S1024x150x128, .f32⟩
  | 17 => ⟨S1024x150x128, .f32⟩
  | 18 => ⟨S1024x150x128, .f32⟩
  | 19 => ⟨S_, .f32⟩
  | 20 => ⟨S_, .f32⟩
  | 21 => ⟨S_, .f32⟩
  | 22 => ⟨S_, .f32⟩
  | 23 => ⟨S1024x150, .f32⟩
  | 24 => ⟨S1024x150x1, .f32⟩
  | 25 => ⟨S1024x150x1, .f32⟩
  | 26 => ⟨S1024x150x1, .f32⟩
  | 27 => ⟨S_, .f32⟩
  | 28 => ⟨S_, .i1⟩
  | 29 => ⟨S_, .f32⟩
  | 30 => ⟨S_, .f32⟩
  | 31 => ⟨S1024x150x1, .f32⟩
  | 32 => ⟨S1024x150x1, .f32⟩
  | 33 => ⟨S1024x150x128, .f32⟩
  | 34 => ⟨S1024x150x128, .f32⟩
  | 35 => ⟨S_, .f32⟩
  | 36 => ⟨S1024x150x1, .f32⟩
  | 37 => ⟨S1024x150x1, .f32⟩
  | 38 => ⟨S1024x150x1, .f32⟩
  | 39 => ⟨S1024x150x128, .f32⟩
  | 40 => ⟨S1024x150x128, .f32⟩
  | 41 => ⟨S1x1x128, .f32⟩
  | 42 => ⟨S1024x150x128, .f32⟩
  | 43 => ⟨S1024x150x128, .f32⟩
  | 44 => ⟨S1x1x128, .f32⟩
  | 45 => ⟨S1024x150x128, .f32⟩
  | 46 => ⟨S1024x150x128, .f32⟩
  | 47 => ⟨S_, .f32⟩
  | 48 => ⟨S1024x150x128, .f32⟩
  | 49 => ⟨S1024x150x128, .f32⟩
  | 50 => ⟨S_, .f32⟩
  | 51 => ⟨S1024x150x128, .f32⟩
  | 52 => ⟨S1024x150x128, .f32⟩
  | 53 => ⟨S1024x150x128, .f32⟩
  | 54 => ⟨S_, .f32⟩
  | 55 => ⟨S1024x128, .f32⟩
  | 56 => ⟨S1024x1x128, .f32⟩
  | 57 => ⟨S_, .f32⟩
  | 58 => ⟨S1024x1x128, .f32⟩
  | 59 => ⟨S1024x1x128, .f32⟩
  | 60 => ⟨S1024x50x128, .f32⟩
  | 61 => ⟨S1024x50x256, .f32⟩
  | 62 => ⟨S1024x50x128, .f32⟩
  | 63 => ⟨S1x1x128, .f32⟩
  | 64 => ⟨S1024x50x128, .f32⟩
  | 65 => ⟨S1024x50x128, .f32⟩
  | 66 => ⟨S_, .f32⟩
  | 67 => ⟨S1024x50, .f32⟩
  | 68 => ⟨S1024x50x1, .f32⟩
  | 69 => ⟨S_, .f32⟩
  | 70 => ⟨S1024x50x1, .f32⟩
  | 71 => ⟨S1024x50x1, .f32⟩
  | 72 => ⟨S_, .i32⟩
  | 73 => ⟨S_, .f32⟩
  | 74 => ⟨S1024x50, .f32⟩
  | 75 => ⟨S1024x50x1, .f32⟩
  | 76 => ⟨S_, .f32⟩
  | 77 => ⟨S1024x50x1, .f32⟩
  | 78 => ⟨S1024x50x1, .f32⟩
  | 79 => ⟨S1024x50x128, .f32⟩
  | 80 => ⟨S1024x50x128, .f32⟩
  | 81 => ⟨S1024x50x128, .f32⟩
  | 82 => ⟨S_, .f32⟩
  | 83 => ⟨S_, .f32⟩
  | 84 => ⟨S_, .f32⟩
  | 85 => ⟨S_, .f32⟩
  | 86 => ⟨S1024x50, .f32⟩
  | 87 => ⟨S1024x50x1, .f32⟩
  | 88 => ⟨S1024x50x1, .f32⟩
  | 89 => ⟨S1024x50x1, .f32⟩
  | 90 => ⟨S_, .f32⟩
  | 91 => ⟨S_, .i1⟩
  | 92 => ⟨S_, .f32⟩
  | 93 => ⟨S_, .f32⟩
  | 94 => ⟨S1024x50x1, .f32⟩
  | 95 => ⟨S1024x50x1, .f32⟩
  | 96 => ⟨S1024x50x128, .f32⟩
  | 97 => ⟨S1024x50x128, .f32⟩
  | 98 => ⟨S_, .f32⟩
  | 99 => ⟨S1024x50x1, .f32⟩
  | 100 => ⟨S1024x50x1, .f32⟩
  | 101 => ⟨S1024x50x1, .f32⟩
  | 102 => ⟨S1024x50x128, .f32⟩
  | 103 => ⟨S1024x50x128, .f32⟩
  | 104 => ⟨S1x1x128, .f32⟩
  | 105 => ⟨S1024x50x128, .f32⟩
  | 106 => ⟨S1024x50x128, .f32⟩
  | 107 => ⟨S1x1x128, .f32⟩
  | 108 => ⟨S1024x50x128, .f32⟩
  | 109 => ⟨S1024x50x128, .f32⟩
  | 110 => ⟨S_, .f32⟩
  | 111 => ⟨S1024x50x128, .f32⟩
  | 112 => ⟨S1024x50x128, .f32⟩
  | 113 => ⟨S_, .f32⟩
  | 114 => ⟨S1024x50x128, .f32⟩
  | 115 => ⟨S1024x50x128, .f32⟩
  | 116 => ⟨S1024x50x128, .f32⟩
  | _ => ⟨S1024x150x128, .f32⟩

abbrev hbmTy (i : Nat) : BufTy := match i / 128 with
  | 0 => hbmTy0_0 i
  | 1 => hbmTy0_1 i
  | 2 => hbmTy0_2 i
  | _ => ⟨S1024x150x128, .f32⟩

abbrev bufTy : (tb : Table) → Fin (tcTables nBuf tb) → BufTy
  | .hbm, ⟨i, _⟩ => hbmTy i
  | _, _ => ⟨S1024x150x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_c_6 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_10 : Ref sig .tc := ⟨.hbm, 70, rfl⟩
abbrev main_v35 : Ref sig .tc := ⟨.hbm, 71, rfl⟩
abbrev main_v36 : Ref sig .tc := ⟨.hbm, 72, rfl⟩
abbrev main_c_11 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_v56 : Ref sig .tc := ⟨.hbm, 98, rfl⟩
abbrev main_c_15 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_cst_2 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_v12 : Ref sig .tc := ⟨.hbm, 116, rfl⟩
abbrev main_call2_cst_3 : Ref sig .tc := ⟨.hbm, 117, rfl⟩
abbrev main_call2_v13 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_16 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_call3_cst : Ref sig .tc := ⟨.hbm, 137, rfl⟩
abbrev main_call3_v0 : Ref sig .tc := ⟨.hbm, 138, rfl⟩
abbrev main_v71 : Ref sig .tc := ⟨.hbm, 139, rfl⟩
abbrev main_v72 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_c_1 : Ref sig .tc := ⟨.hbm, 148, rfl⟩
abbrev main_call4_c_2 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_c_3 : Ref sig .tc := ⟨.hbm, 156, rfl⟩
abbrev main_call4_v11 : Ref sig .tc := ⟨.hbm, 157, rfl⟩
abbrev main_call4_v12 : Ref sig .tc := ⟨.hbm, 158, rfl⟩
abbrev main_call4_v13 : Ref sig .tc := ⟨.hbm, 159, rfl⟩
abbrev main_call4_cst : Ref sig .tc := ⟨.hbm, 160, rfl⟩
abbrev main_call4_v14 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_17 : Ref sig .tc := ⟨.hbm, 169, rfl⟩
abbrev main_v80 : Ref sig .tc := ⟨.hbm, 170, rfl⟩
abbrev main_v81 : Ref sig .tc := ⟨.hbm, 171, rfl⟩
abbrev main_cst_18 : Ref sig .tc := ⟨.hbm, 172, rfl⟩
abbrev main_v82 : Ref sig .tc := ⟨.hbm, 173, rfl⟩
abbrev main_v83 : Ref sig .tc := ⟨.hbm, 174, rfl⟩
abbrev main_c_19 : Ref sig .tc := ⟨.hbm, 175, rfl⟩
abbrev main_call5_cst : Ref sig .tc := ⟨.hbm, 176, rfl⟩
abbrev main_call5_v0 : Ref sig .tc := ⟨.hbm, 177, rfl⟩
abbrev main_call5_v1 : Ref sig .tc := ⟨.hbm, 178, rfl⟩
abbrev main_call5_cst_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_v6 : Ref sig .tc := ⟨.hbm, 184, rfl⟩
abbrev main_call5_v7 : Ref sig .tc := ⟨.hbm, 185, rfl⟩
abbrev main_call5_cst_1 : Ref sig .tc := ⟨.hbm, 186, rfl⟩
abbrev main_call5_v8 : Ref sig .tc := ⟨.hbm, 187, rfl⟩
abbrev main_call5_cst_2 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_v12 : Ref sig .tc := ⟨.hbm, 192, rfl⟩
abbrev main_call5_cst_3 : Ref sig .tc := ⟨.hbm, 193, rfl⟩
abbrev main_call5_v13 : Ref sig .tc := ⟨.hbm, 194, rfl⟩
abbrev main_call5_cst_4 : Ref sig .tc := ⟨.hbm, 195, rfl⟩
abbrev main_call5_call0_v0 : Ref sig .tc := ⟨.hbm, 196, rfl⟩
abbrev main_call5_call0_v1 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_cst_20 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_call6_cst : Ref sig .tc := ⟨.hbm, 213, rfl⟩
abbrev main_call6_v0 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_cst_21 : Ref sig .tc := ⟨.hbm, 223, rfl⟩
abbrev main_v106 : Ref sig .tc := ⟨.hbm, 224, rfl⟩
abbrev main_v107 : Ref sig .tc := ⟨.hbm, 225, rfl⟩
abbrev main_cst_22 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_cst_23 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_cst_24 : Ref sig .tc := ⟨.hbm, 242, rfl⟩
abbrev main_v122 : Ref sig .tc := ⟨.hbm, 243, rfl⟩
abbrev main_v123 : Ref sig .tc := ⟨.hbm, 244, rfl⟩
abbrev main_cst_25 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_cst_26 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_27 : Ref sig .tc := ⟨.hbm, 259, rfl⟩
abbrev main_v136 : Ref sig .tc := ⟨.hbm, 260, rfl⟩
abbrev main_v137 : Ref sig .tc := ⟨.hbm, 261, rfl⟩
abbrev main_cst_28 : Ref sig .tc := ⟨.hbm, 262, rfl⟩
abbrev main_v138 : Ref sig .tc := ⟨.hbm, 263, rfl⟩
abbrev main_v139 : Ref sig .tc := ⟨.hbm, 264, rfl⟩
abbrev main_c_29 : Ref sig .tc := ⟨.hbm, 265, rfl⟩
abbrev main_call7_cst : Ref sig .tc := ⟨.hbm, 266, rfl⟩
abbrev main_call7_v0 : Ref sig .tc := ⟨.hbm, 267, rfl⟩
abbrev main_call7_v1 : Ref sig .tc := ⟨.hbm, 268, rfl⟩
abbrev main_call7_cst_0 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_call7_v5 : Ref sig .tc := ⟨.hbm, 273, rfl⟩
abbrev main_call7_v6 : Ref sig .tc := ⟨.hbm, 274, rfl⟩
abbrev main_call7_v7 : Ref sig .tc := ⟨.hbm, 275, rfl⟩
abbrev main_call7_cst_1 : Ref sig .tc := ⟨.hbm, 276, rfl⟩
abbrev main_call7_v8 : Ref sig .tc := ⟨.hbm, 277, rfl⟩
abbrev main_call7_cst_2 : Ref sig .tc := ⟨.hbm, 278, rfl⟩
abbrev main_call7_v9 : Ref sig .tc := ⟨.hbm, 279, rfl⟩
abbrev main_call7_v10 : Ref sig .tc := ⟨.hbm, 280, rfl⟩
abbrev main_call7_v11 : Ref sig .tc := ⟨.hbm, 281, rfl⟩
abbrev main_call7_v12 : Ref sig .tc := ⟨.hbm, 282, rfl⟩
abbrev main_call7_cst_3 : Ref sig .tc := ⟨.hbm, 283, rfl⟩
abbrev main_call7_v13 : Ref sig .tc := ⟨.hbm, 284, rfl⟩
abbrev main_call7_cst_4 : Ref sig .tc := ⟨.hbm, 285, rfl⟩
abbrev main_call7_call0_v0 : Ref sig .tc := ⟨.hbm, 286, rfl⟩
abbrev main_call7_call0_v1 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_cst_30 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_call8_cst : Ref sig .tc := ⟨.hbm, 303, rfl⟩
abbrev main_call8_v0 : Ref sig .tc := ⟨.hbm, 304, rfl⟩
abbrev main_v154 : Ref sig .tc := ⟨.hbm, 305, rfl⟩
abbrev main_cst_31 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_cst_32 : Ref sig .tc := ⟨.hbm, 310, rfl⟩
abbrev main_v158 : Ref sig .tc := ⟨.hbm, 311, rfl⟩
abbrev main_v159 : Ref sig .tc := ⟨.hbm, 312, rfl⟩
abbrev main_cst_33 : Ref sig .tc := ⟨.hbm, 313, rfl⟩
abbrev main_v160 : Ref sig .tc := ⟨.hbm, 314, rfl⟩
abbrev main_v161 : Ref sig .tc := ⟨.hbm, 315, rfl⟩
abbrev main_v162 : Ref sig .tc := ⟨.hbm, 316, rfl⟩
abbrev main_v163 : Ref sig .tc := ⟨.hbm, 317, rfl⟩
abbrev main_v164 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_cst_34 : Ref sig .tc := ⟨.hbm, 322, rfl⟩
abbrev main_v168 : Ref sig .tc := ⟨.hbm, 323, rfl⟩
abbrev main_v169 : Ref sig .tc := ⟨.hbm, 324, rfl⟩
abbrev main_cst_35 : Ref sig .tc := ⟨.hbm, 325, rfl⟩
abbrev main_v170 : Ref sig .tc := ⟨.hbm, 326, rfl⟩
abbrev main_v171 : Ref sig .tc := ⟨.hbm, 327, rfl⟩
abbrev main_c_36 : Ref sig .tc := ⟨.hbm, 328, rfl⟩
abbrev main_call9_cst : Ref sig .tc := ⟨.hbm, 329, rfl⟩
abbrev main_call9_v0 : Ref sig .tc := ⟨.hbm, 330, rfl⟩
abbrev main_call9_v1 : Ref sig .tc := ⟨.hbm, 331, rfl⟩
abbrev main_call9_cst_0 : Ref sig .tc := ⟨.hbm, 332, rfl⟩
abbrev main_call9_v2 : Ref sig .tc := ⟨.hbm, 333, rfl⟩
abbrev main_call9_v3 : Ref sig .tc := ⟨.hbm, 334, rfl⟩
abbrev main_call9_v4 : Ref sig .tc := ⟨.hbm, 335, rfl⟩
abbrev main_call9_v5 : Ref sig .tc := ⟨.hbm, 336, rfl⟩
abbrev main_call9_v6 : Ref sig .tc := ⟨.hbm, 337, rfl⟩
abbrev main_call9_v7 : Ref sig .tc := ⟨.hbm, 338, rfl⟩
abbrev main_call9_cst_1 : Ref sig .tc := ⟨.hbm, 339, rfl⟩
abbrev main_call9_v8 : Ref sig .tc := ⟨.hbm, 340, rfl⟩
abbrev main_call9_cst_2 : Ref sig .tc := ⟨.hbm, 341, rfl⟩
abbrev main_call9_v9 : Ref sig .tc := ⟨.hbm, 342, rfl⟩
abbrev main_call9_v10 : Ref sig .tc := ⟨.hbm, 343, rfl⟩
abbrev main_call9_v11 : Ref sig .tc := ⟨.hbm, 344, rfl⟩
abbrev main_call9_v12 : Ref sig .tc := ⟨.hbm, 345, rfl⟩
abbrev main_call9_cst_3 : Ref sig .tc := ⟨.hbm, 346, rfl⟩
abbrev main_call9_v13 : Ref sig .tc := ⟨.hbm, 347, rfl⟩
abbrev main_call9_cst_4 : Ref sig .tc := ⟨.hbm, 348, rfl⟩
abbrev main_call9_call0_v0 : Ref sig .tc := ⟨.hbm, 349, rfl⟩
abbrev main_call9_call0_v1 : Ref sig .tc := ⟨.hbm, 350, rfl⟩
abbrev main_v172 : Ref sig .tc := ⟨.hbm, 351, rfl⟩
abbrev main_v173 : Ref sig .tc := ⟨.hbm, 352, rfl⟩
abbrev main_v174 : Ref sig .tc := ⟨.hbm, 353, rfl⟩
abbrev main_cst_37 : Ref sig .tc := ⟨.hbm, 354, rfl⟩
abbrev main_v175 : Ref sig .tc := ⟨.hbm, 355, rfl⟩
abbrev main_v176 : Ref sig .tc := ⟨.hbm, 356, rfl⟩
abbrev main_v177 : Ref sig .tc := ⟨.hbm, 357, rfl⟩
abbrev main_v178 : Ref sig .tc := ⟨.hbm, 358, rfl⟩
abbrev main_v179 : Ref sig .tc := ⟨.hbm, 359, rfl⟩
abbrev main_v180 : Ref sig .tc := ⟨.hbm, 360, rfl⟩
abbrev main_v181 : Ref sig .tc := ⟨.hbm, 361, rfl⟩
abbrev main_v182 : Ref sig .tc := ⟨.hbm, 362, rfl⟩
abbrev main_v183 : Ref sig .tc := ⟨.hbm, 363, rfl⟩
abbrev main_v184 : Ref sig .tc := ⟨.hbm, 364, rfl⟩
abbrev main_v185 : Ref sig .tc := ⟨.hbm, 365, rfl⟩
abbrev main_call10_cst : Ref sig .tc := ⟨.hbm, 366, rfl⟩
abbrev main_call10_v0 : Ref sig .tc := ⟨.hbm, 367, rfl⟩
abbrev main_v186 : Ref sig .tc := ⟨.hbm, 368, rfl⟩
abbrev main_cst_38 : Ref sig .tc := ⟨.hbm, 369, rfl⟩
abbrev main_v187 : Ref sig .tc := ⟨.hbm, 370, rfl⟩
abbrev main_v188 : Ref sig .tc := ⟨.hbm, 371, rfl⟩
abbrev main_v189 : Ref sig .tc := ⟨.hbm, 372, rfl⟩

abbrev nD : Nat := 1
abbrev τ : Topo := Topo.v7x

variable {F : FTy → Type} [FloatOps F]
-- ==== Proof.Spec.lean ====
/- What the encoder computes for ONE molecule, over the extended reals, written with plain sums: the two pooled
   features, the two dense layers, the gates, and the two updates. Neither program is mentioned here; each program's
   own modules show that it computes these functions. -/
module

public import Idealize.ShloMosaic.PureOps.Ideal.Laws
public import Idealize.ShloMosaic.Lib.IdealHost

@[expose] public section

noncomputable section

namespace Cert.Encoder

open Idealize.ShloMosaic
open scoped BigOperators

/-- A feature row: 128 extended reals. -/
abbrev Row : Type := Fin 128 → EReal

/-- The small number both programs add under the square root, as printed. -/
def eps : EReal := Ideal.ofBits .f32 0x3727C5AC#32

/-- The weight of the global update, as printed. -/
def tenth : EReal := Ideal.ofBits .f32 0x3DCCCCCD#32

/-- The mean of a row. -/
def mean (x : Row) : EReal := (∑ k, x k) * ((1 / 128 : ℝ) : EReal)

/-- A row less its mean. -/
def centred (x : Row) : Row := fun d => x d - mean x

/-- The mean of the squares of a row less its mean. -/
def variance (x : Row) : EReal := mean fun k => centred x k * centred x k

/-- Layer normalisation of a row, with its scale `g` and shift `e`. -/
def layerNorm (x g e : Row) : Row := fun d => centred x d * Ideal.rsqrt (variance x + eps) * g d + e d

/-- The positive part of the normalised row. -/
def normRelu (x g e : Row) : Row := fun d => max (layerNorm x g e d) 0

/-- A row times a square matrix, plus a bias. -/
def linear (x : Row) (W : Fin 128 → Row) (b : Row) : Row := fun d => (∑ k, x k * W k d) + b d

/-- Two rows side by side times a matrix of 256 rows, plus a bias. -/
def linearPair (x y : Row) (W : Fin 256 → Row) (b : Row) : Row := fun d =>
  (∑ k : Fin 128, x k * W (Fin.castAdd 128 k) d) + (∑ k : Fin 128, y k * W (Fin.natAdd 128 k) d) + b d

/-- A dense layer: the affine map, then the normalisation and the positive part. -/
def dense (x : Row) (W : Fin 128 → Row) (b g e : Row) : Row := normRelu (linear x W b) g e

/-- The gated mixture of two rows: the gate is the logistic function of their joint affine map. -/
def gated (x y : Row) (W : Fin 256 → Row) (b : Row) : Row := fun d =>
  Ideal.logistic (linearPair x y W b d) * x d + (1 - Ideal.logistic (linearPair x y W b d)) * y d

/-- A row plus a tenth of the dense layer of the row beside a second one. -/
def updated (x y : Row) (W : Fin 256 → Row) (b g e : Row) : Row := fun d =>
  x d + tenth * normRelu (linearPair x y W b) g e d

/-- The weights of the encoder. -/
structure Weights where
  /-- The fine-to-coarse matrix. -/
  wPool : Fin 128 → Row
  /-- The fine-to-coarse bias. -/
  bPool : Row
  /-- The fine-to-coarse scale. -/
  gPool : Row
  /-- The fine-to-coarse shift. -/
  ePool : Row
  /-- The coarse-to-fine matrix. -/
  wPick : Fin 128 → Row
  /-- The coarse-to-fine bias. -/
  bPick : Row
  /-- The coarse-to-fine scale. -/
  gPick : Row
  /-- The coarse-to-fine shift. -/
  ePick : Row
  /-- The gates' matrix. -/
  wGate : Fin 256 → Row
  /-- The gates' bias. -/
  bGate : Row
  /-- The global update's matrix. -/
  wGlob : Fin 256 → Row
  /-- The global update's bias. -/
  bGlob : Row
  /-- The global update's scale. -/
  gGlob : Row
  /-- The global update's shift. -/
  eGlob : Row

/-- One molecule: the coarse node of each of its 150 atoms, and its features. -/
structure Molecule where
  /-- The coarse node of an atom, as a word; a word outside 0 … 49 names none. -/
  node : Fin 150 → BitVec 32
  /-- The atoms' features. -/
  fine : Fin 150 → Row
  /-- The coarse nodes' features. -/
  coarse : Fin 50 → Row
  /-- The atoms' global features. -/
  glob : Fin 150 → Row

/-- One where the word names coarse node `c`, zero elsewhere. -/
def member (w : BitVec 32) (c : Fin 50) : EReal := if w = BitVec.ofNat 32 c.val then 1 else 0

namespace Molecule

variable (M : Molecule) (P : Weights)

/-- The mean of the features of the atoms of a coarse node (their sum where there are none). -/
def pooled (c : Fin 50) : Row := fun d =>
  Ideal.div (∑ a, member (M.node a) c * M.fine a d) (max (∑ a, member (M.node a) c) 1)

/-- The coarse features an atom's word names (zero where it names none). -/
def picked (a : Fin 150) : Row := fun d => ∑ c, member (M.node a) c * M.coarse c d

/-- The fine-to-coarse layer at a coarse node. -/
def toCoarse (c : Fin 50) : Row := dense (M.pooled c) P.wPool P.bPool P.gPool P.ePool

/-- The coarse-to-fine layer at an atom. -/
def toFine (a : Fin 150) : Row := dense (M.picked a) P.wPick P.bPick P.gPick P.ePick

/-- An atom's features gated against the coarse-to-fine layer. -/
def fineMixed (a : Fin 150) : Row := gated (M.fine a) (M.toFine P a) P.wGate P.bGate

/-- A coarse node's features gated against the fine-to-coarse layer. -/
def coarseMixed (c : Fin 50) : Row := gated (M.coarse c) (M.toCoarse P c) P.wGate P.bGate

/-- The mean of the global features over the atoms. -/
def globMean : Row := fun d => (∑ a, M.glob a d) * ((1 / 150 : ℝ) : EReal)

/-- The first result at an atom. -/
def fineOut (a : Fin 150) : Row := updated (M.fineMixed P a) (M.glob a) P.wGlob P.bGlob P.gGlob P.eGlob

/-- The second result at a coarse node. -/
def coarseOut (c : Fin 50) : Row := updated (M.coarseMixed P c) M.globMean P.wGlob P.bGlob P.gGlob P.eGlob

end Molecule

end Cert.Encoder

end
-- ==== Proof.Algebra.lean ====
/- The laws of the extended reals that the two programs' values meet by: a nonnegative real factor moves through a sum,
   a quotient by a square root is a product with the reciprocal root, and the printed constants' values. -/
module

public import proofs.«01_k».proof.Proof.Spec

@[expose] public section

noncomputable section

namespace Cert.Encoder

open Idealize.ShloMosaic
open scoped BigOperators

/-- A nonnegative real factor on the right moves out of a finite sum. -/
theorem sum_mul_real {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- The same with the factor on the left. -/
theorem sum_real_mul {ι : Type*} (s : Finset ι) (f : ι → EReal) {r : ℝ} (hr : 0 ≤ r) :
    ∑ i ∈ s, (r : EReal) * f i = (∑ i ∈ s, f i) * (r : EReal) := by
  rw [← sum_mul_real s f hr]
  exact Finset.sum_congr rfl fun i _ => mul_comm _ _

/-- A square is nonnegative. -/
theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- The variance of a row is nonnegative. -/
theorem variance_nonneg (x : Row) : 0 ≤ variance x :=
  mul_nonneg (Finset.sum_nonneg fun _ _ => mul_self_nonneg' _) (EReal.coe_nonneg.mpr (by norm_num))

/-- The number added under the square root is a positive real. -/
theorem eps_pos : ∃ r : ℝ, 0 < r ∧ eps = (r : EReal) := by
  refine ⟨_, ?_, by simp [eps, Ideal.ofBits, Ideal.ieee, -EReal.coe_mul]; rfl⟩
  norm_num

/-- Division by the square root of a nonnegative number plus `eps` is multiplication with the reciprocal root. -/
theorem div_sqrt (x : EReal) {v : EReal} (hv : 0 ≤ v) :
    Ideal.div x (Ideal.sqrt (v + eps)) = x * Ideal.rsqrt (v + eps) := by
  obtain ⟨r, hr, he⟩ := eps_pos
  rw [he]
  induction v with
  | bot => simp at hv
  | top => simp [Ideal.div]
  | coe a =>
    have ha : 0 < a + r := add_pos_of_nonneg_of_pos (EReal.coe_nonneg.mp hv) hr
    have hs : Real.sqrt (a + r) ≠ 0 := (Real.sqrt_pos.mpr ha).ne'
    rw [← EReal.coe_add, Ideal.sqrt_coe, Ideal.rsqrt_coe, if_neg (not_lt.mpr ha.le), if_neg (not_lt.mpr ha.le),
      if_neg ha.ne', Ideal.div_coe hs, one_div]

/-- The printed word for 1/128. -/
theorem ofBits_128th : Ideal.ofBits .f32 0x3C000000#32 = ((1 / 128 : ℝ) : EReal) := by
  simp [Ideal.ofBits, Ideal.ieee, -EReal.coe_mul]; norm_num

/-- The printed word for 128. -/
theorem ofBits_128 : Ideal.ofBits .f32 0x43000000#32 = ((128 : ℝ) : EReal) := by
  simp [Ideal.ofBits, Ideal.ieee, -EReal.coe_mul]; norm_num

/-- The printed word for 150. -/
theorem ofBits_150 : Ideal.ofBits .f32 0x43160000#32 = ((150 : ℝ) : EReal) := by
  simp [Ideal.ofBits, Ideal.ieee, -EReal.coe_mul]; norm_num

/-- A sum over 256 places is the sum over the first 128 and the sum over the last. -/
theorem sum_256 (f : Fin 256 → EReal) :
    ∑ k, f k = (∑ k : Fin 128, f (Fin.castAdd 128 k)) + ∑ k : Fin 128, f (Fin.natAdd 128 k) :=
  Fin.sum_univ_add (a := 128) (b := 128) f

end Cert.Encoder

end
-- ==== Proof.KernelLayer.lean ====
/- The kernel's layers on one molecule's matrices, at any number `n` of rows: products, normalisation by a product with
   a constant matrix, the gate and the update, each read at an index as the row function of `Spec`. -/
module

public import proofs.«01_k».proof.Proof.Algebra
public import Idealize.ShloMosaic.Lib.Pipeline.Value
public import Idealize.ShloMosaic.Lib.ValueIdx
public import Idealize.ShloMosaic.Lib.ValueLayout
public import Idealize.ShloMosaic.Lib.MatmulPlain

@[expose] public section

noncomputable section

namespace Cert.Encoder.Chip

open Idealize.ShloMosaic Idealize.ShloMosaic.ValueIdx
open scoped BigOperators

/-- A matrix of `n` rows and `m` columns. -/
abbrev M2 (n m : ℕ) : Shape := ⟨2, ![n, m]⟩

/-- Matrices of extended reals. -/
abbrev Mat (n m : ℕ) : Type := FVec Ideal (M2 n m) .f32

variable {n m : ℕ}

/-- Row `a` of a matrix of 128 columns. -/
abbrev row (x : Mat n 128) (a : Fin n) : Row := fun k => x (ix2 a k)

/-! ## Products -/

/-- The product of two matrices. -/
def times {l : ℕ} (x : Mat n l) (W : Mat l m) : Mat n m :=
  matmul (DotDims.plain n l m) none x W (constant (M2 n m) .f32 0x00000000#32)

/-- It is the sum of products. -/
theorem times_apply {l : ℕ} (x : Mat n l) (W : Mat l m) (a : Fin n) (d : Fin m) :
    times x W (ix2 a d) = ∑ k, x (ix2 a k) * W (ix2 k d) := by
  show FloatOps.matmul (F := Ideal) (DotDims.plain n l m) none x W (constant (F := Ideal) (M2 n m) .f32 0x00000000#32) (ix2 a d) = _
  rw [Ideal.matmul_plain_apply, constant_apply, Ideal.ofBits_zero_f32, zero_add]

/-- The dimensions of a product that sums over the ROWS of both matrices. -/
def crossDims (l n m : ℕ) (h : DotDims.WF (M2 l n) (M2 l m) (M2 n m) [0] [0] [1] [1] [] []) :
    DotDims (M2 l n) (M2 l m) (M2 n m) where
  lhsContracting := [0]
  rhsContracting := [0]
  lhsNonContracting := [1]
  rhsNonContracting := [1]
  lhsBatch := []
  rhsBatch := []
  wf := h

/-- The product of a transposed matrix with another. -/
def cross {l : ℕ} (h : DotDims.WF (M2 l n) (M2 l m) (M2 n m) [0] [0] [1] [1] [] []) (x : Mat l n) (y : Mat l m) : Mat n m :=
  matmul (crossDims l n m h) none x y (constant (M2 n m) .f32 0x00000000#32)

/-- It is the sum of products over the rows. -/
theorem cross_apply {l : ℕ} (h : DotDims.WF (M2 l n) (M2 l m) (M2 n m) [0] [0] [1] [1] [] []) (x : Mat l n) (y : Mat l m)
    (a : Fin n) (d : Fin m) : cross h x y (ix2 a d) = ∑ k, x (ix2 k a) * y (ix2 k d) := by
  show FloatOps.matmul (F := Ideal) (crossDims l n m h) none x y (constant (F := Ideal) (M2 n m) .f32 0x00000000#32) (ix2 a d) = _
  rw [Ideal.matmul_apply, constant_apply, Ideal.ofBits_zero_f32, zero_add,
    ← Equiv.sum_comp (contrEquiv1 (crossDims l n m h) l rfl rfl).symm]
  refine Finset.sum_congr rfl fun k _ => ?_
  have hk := contrEquiv1_symm_val (crossDims l n m h) l rfl rfl k
  have el : (crossDims l n m h).lhsIdx (ix2 a d) ((contrEquiv1 (crossDims l n m h) l rfl rfl).symm k) = ix2 k a := by
    funext c; apply Fin.ext
    match c with
    | ⟨0, _⟩ => exact hk
    | ⟨1, _⟩ => rfl
  have er : (crossDims l n m h).rhsIdx (ix2 a d) ((contrEquiv1 (crossDims l n m h) l rfl rfl).symm k) = ix2 k d := by
    funext c; apply Fin.ext
    match c with
    | ⟨0, _⟩ => exact hk
    | ⟨1, _⟩ => rfl
  rw [el, er]

/-! ## Normalisation -/

/-- A single number at every place. -/
abbrev fill (n m : ℕ) (w : BitVec 32) : Mat n m := broadcast (M2 n m) (Scalar.ofBits (F := Ideal) .f32 w)

/-- The kernel's averaging matrix: 1/128 everywhere. -/
abbrev avg : Mat 128 128 := fill 128 128 0x3C000000#32

/-- A product with the averaging matrix holds each row's mean. -/
theorem times_avg (x : Mat n 128) (a : Fin n) (d : Fin 128) : times x avg (ix2 a d) = mean (row x a) := by
  rw [times_apply]
  show ∑ k, x (ix2 a k) * Ideal.ofBits .f32 0x3C000000#32 = _
  rw [ofBits_128th]
  exact sum_mul_real _ _ (by norm_num)

variable (H : (M2 1 128).Broadcasts (M2 n 128))

/-- One row repeated `n` times. -/
abbrev rep (v : Mat 1 128) : Mat n 128 := broadcastTo (M2 n 128) v H

/-- A repeated row reads the row. -/
theorem rep_apply (v : Mat 1 128) (a : Fin n) (d : Fin 128) : rep H v (ix2 a d) = v (ix2 (0 : Fin 1) d) :=
  broadcastTo_1b_ab_apply v H a d

/-- Each row less its mean. -/
def centre (x : Mat n 128) : Mat n 128 := subf x (times x avg)

/-- Read at an index. -/
theorem centre_apply (x : Mat n 128) (a : Fin n) (d : Fin 128) : centre x (ix2 a d) = centred (row x a) d := by
  show x (ix2 a d) - times x avg (ix2 a d) = _
  rw [times_avg]
  rfl

/-- The normalised rows with scale `g` and shift `e`, and their positive part. -/
def norm (x : Mat n 128) (g e : Mat 1 128) : Mat n 128 :=
  maximumf (addf (mulf (mulf (centre x)
      (rsqrt (addf (times (mulf (centre x) (centre x)) avg) (fill n 128 0x3727C5AC#32)))) (rep H g)) (rep H e))
    (fill n 128 0x00000000#32)

/-- The normalised rows at an index: the row function of `Spec`. -/
theorem norm_apply (x : Mat n 128) (g e : Mat 1 128) (a : Fin n) (d : Fin 128) :
    norm H x g e (ix2 a d) = normRelu (row x a) (row g 0) (row e 0) d := by
  have hv : times (mulf (centre x) (centre x)) avg (ix2 a d) = variance (row x a) := by
    rw [times_avg]
    refine congrArg mean (funext fun k => ?_)
    show centre x (ix2 a k) * centre x (ix2 a k) = _
    rw [centre_apply]
  show max (centre x (ix2 a d) * Ideal.rsqrt (times (mulf (centre x) (centre x)) avg (ix2 a d)
      + Ideal.ofBits .f32 0x3727C5AC#32) * rep H g (ix2 a d) + rep H e (ix2 a d)) (Ideal.ofBits .f32 0x00000000#32) = _
  rw [hv, centre_apply, Ideal.ofBits_zero_f32, rep_apply, rep_apply]
  rfl

/-! ## Affine maps, the gate and the update -/

/-- Rows times a square matrix, plus a bias. -/
def affine (x : Mat n 128) (W : Mat 128 128) (b : Mat 1 128) : Mat n 128 := addf (times x W) (rep H b)

/-- Read as a row. -/
theorem affine_row (x : Mat n 128) (W : Mat 128 128) (b : Mat 1 128) (a : Fin n) :
    row (affine H x W b) a = linear (row x a) (fun k e => W (ix2 k e)) (row b 0) := by
  funext d
  show times x W (ix2 a d) + rep H b (ix2 a d) = _
  rw [times_apply, rep_apply]
  rfl

/-- Two products and a bias added up. -/
def affine2 (x y : Mat n 128) (W V : Mat 128 128) (b : Mat 1 128) : Mat n 128 :=
  addf (addf (times x W) (times y V)) (rep H b)

/-- Read as a row: the affine map of the two rows side by side, where `W` and `V` are the upper and lower half of `U`. -/
theorem affine2_row (x y : Mat n 128) (W V : Mat 128 128) (b : Mat 1 128) (U : Fin 256 → Row)
    (hW : ∀ k e, W (ix2 k e) = U (Fin.castAdd 128 k) e) (hV : ∀ k e, V (ix2 k e) = U (Fin.natAdd 128 k) e) (a : Fin n) :
    row (affine2 H x y W V b) a = linearPair (row x a) (row y a) U (row b 0) := by
  funext d
  show times x W (ix2 a d) + times y V (ix2 a d) + rep H b (ix2 a d) = _
  rw [times_apply, times_apply, rep_apply]
  simp only [hW, hV]
  rfl

/-- A product, the one row of a second product, and a bias added up. -/
def affineRow (x : Mat n 128) (y : Mat 1 128) (W V : Mat 128 128) (b : Mat 1 128) : Mat n 128 :=
  addf (addf (times x W) (rep H (times y V))) (rep H b)

/-- Read as a row: the affine map of the row of `x` and the one row `y` side by side. -/
theorem affineRow_row (x : Mat n 128) (y : Mat 1 128) (W V : Mat 128 128) (b : Mat 1 128) (U : Fin 256 → Row)
    (hW : ∀ k e, W (ix2 k e) = U (Fin.castAdd 128 k) e) (hV : ∀ k e, V (ix2 k e) = U (Fin.natAdd 128 k) e) (a : Fin n) :
    row (affineRow H x y W V b) a = linearPair (row x a) (row y 0) U (row b 0) := by
  funext d
  show times x W (ix2 a d) + rep H (times y V) (ix2 a d) + rep H b (ix2 a d) = _
  rw [times_apply, rep_apply, times_apply, rep_apply]
  simp only [hW, hV]
  rfl

/-- The mixture of two matrices by the logistic function of a third. -/
def mix (z x y : Mat n 128) : Mat n 128 :=
  addf (mulf (logistic z) x) (mulf (subf (fill n 128 0x3F800000#32) (logistic z)) y)

/-- Read at an index. -/
theorem mix_apply (z x y : Mat n 128) (i : (M2 n 128).Idx) :
    mix z x y i = Ideal.logistic (z i) * x i + (1 - Ideal.logistic (z i)) * y i := by
  show Ideal.logistic (z i) * x i + (Ideal.ofBits .f32 0x3F800000#32 - Ideal.logistic (z i)) * y i = _
  rw [Ideal.ofBits_one_f32]

/-- A matrix plus a tenth of another. -/
def bump (x y : Mat n 128) : Mat n 128 := addf x (mulf (fill n 128 0x3DCCCCCD#32) y)

/-- Read at an index. -/
theorem bump_apply (x y : Mat n 128) (i : (M2 n 128).Idx) : bump x y i = x i + tenth * y i := rfl

/-- The gated rows. -/
theorem mix_row (x y : Mat n 128) (W V : Mat 128 128) (b : Mat 1 128) (U : Fin 256 → Row)
    (hW : ∀ k e, W (ix2 k e) = U (Fin.castAdd 128 k) e) (hV : ∀ k e, V (ix2 k e) = U (Fin.natAdd 128 k) e) (a : Fin n) :
    row (mix (affine2 H x y W V b) x y) a = gated (row x a) (row y a) U (row b 0) := by
  funext d
  have h : affine2 H x y W V b (ix2 a d) = _ := congrFun (affine2_row H x y W V b U hW hV a) d
  show mix (affine2 H x y W V b) x y (ix2 a d) = _
  rw [mix_apply, h]
  rfl

/-- The updated rows, from the affine map the update normalises. -/
theorem bump_row (x z : Mat n 128) (g e : Mat 1 128) (y : Row) (U : Fin 256 → Row) (b : Row) (a : Fin n)
    (hz : row z a = linearPair (row x a) y U b) :
    row (bump x (norm H z g e)) a = updated (row x a) y U b (row g 0) (row e 0) := by
  funext d
  show bump x (norm H z g e) (ix2 a d) = _
  rw [bump_apply, norm_apply, hz]
  rfl

end Cert.Encoder.Chip

end
-- ==== Proof.KernelSlot.lean ====
/- What the kernel computes for one molecule of a block, as a function of that molecule's loads and of the weight
   tables: the two stored matrices are the two results of `Spec`. -/
module

public import proofs.«01_k».proof.Proof.KernelLayer
public import proofs.«01_k».proof.Proof.Gen.KernelIdeal.Frame
public import Idealize.ShloMosaic.Lib.Pipeline.ValueKit.Tiles

@[expose] public section

noncomputable section

namespace Cert.KernelIdeal.Slot

open Cert.KernelIdeal Cert.KernelIdeal.Gen Cert.Encoder Cert.Encoder.Chip
open Idealize.ShloMosaic Idealize.ShloMosaic.ValueIdx
open scoped BigOperators

/-- The weight tables as the kernel's windows hold them. -/
structure Tables where
  /-- The fine-to-coarse matrix. -/
  wPool : Vec Ideal S128x128 .f32
  /-- The coarse-to-fine matrix. -/
  wPick : Vec Ideal S128x128 .f32
  /-- The gates' matrix. -/
  wGate : Vec Ideal S256x128 .f32
  /-- The global update's matrix. -/
  wGlob : Vec Ideal S256x128 .f32
  /-- The fine-to-coarse bias. -/
  bPool : Vec Ideal S1x128 .f32
  /-- The fine-to-coarse scale. -/
  gPool : Vec Ideal S1x128 .f32
  /-- The fine-to-coarse shift. -/
  ePool : Vec Ideal S1x128 .f32
  /-- The coarse-to-fine bias. -/
  bPick : Vec Ideal S1x128 .f32
  /-- The coarse-to-fine scale. -/
  gPick : Vec Ideal S1x128 .f32
  /-- The coarse-to-fine shift. -/
  ePick : Vec Ideal S1x128 .f32
  /-- The gates' bias. -/
  bGate : Vec Ideal S1x128 .f32
  /-- The global update's bias. -/
  bGlob : Vec Ideal S1x128 .f32
  /-- The global update's scale. -/
  gGlob : Vec Ideal S1x128 .f32
  /-- The global update's shift. -/
  eGlob : Vec Ideal S1x128 .f32

/-- The weights a set of tables holds. -/
def Tables.weights (T : Tables) : Weights where
  wPool := fun k e => T.wPool (ix2 k e)
  bPool := fun e => T.bPool (ix2 (0 : Fin 1) e)
  gPool := fun e => T.gPool (ix2 (0 : Fin 1) e)
  ePool := fun e => T.ePool (ix2 (0 : Fin 1) e)
  wPick := fun k e => T.wPick (ix2 k e)
  bPick := fun e => T.bPick (ix2 (0 : Fin 1) e)
  gPick := fun e => T.gPick (ix2 (0 : Fin 1) e)
  ePick := fun e => T.ePick (ix2 (0 : Fin 1) e)
  wGate := fun k e => T.wGate (ix2 k e)
  bGate := fun e => T.bGate (ix2 (0 : Fin 1) e)
  wGlob := fun k e => T.wGlob (ix2 k e)
  bGlob := fun e => T.bGlob (ix2 (0 : Fin 1) e)
  gGlob := fun e => T.gGlob (ix2 (0 : Fin 1) e)
  eGlob := fun e => T.eGlob (ix2 (0 : Fin 1) e)

/-! ## Loads of the tables -/

/-- A vector as the kernel holds it: loaded whole. -/
def vec (v : Vec Ideal S1x128 .f32) : Mat 1 128 := shapeCast S1x128 (View.ld v r0_3) shapeCasts_S1x128_S1x128

/-- It is the table's. -/
theorem vec_eq (v : Vec Ideal S1x128 .f32) : vec v = v := by
  refine (shapeCast_self (s := S1x128) (View.ld v r0_3) _).trans ?_
  exact View.ld_unit_zero (funext fun a => match a with | ⟨0, _⟩ => rfl | ⟨1, _⟩ => rfl) _ v

/-- A square matrix as the kernel holds it: loaded whole. -/
def square (W : Vec Ideal S128x128 .f32) : Mat 128 128 := View.ld W r0_0

/-- It is the table's. -/
theorem square_eq (W : Vec Ideal S128x128 .f32) : square W = W :=
  View.ld_unit_zero (funext fun a => match a with | ⟨0, _⟩ => rfl | ⟨1, _⟩ => rfl) _ W

/-- The upper half of a tall matrix. -/
def upper (U : Vec Ideal S256x128 .f32) : Mat 128 128 := View.ld U r0_1

/-- The lower half. -/
def lower (U : Vec Ideal S256x128 .f32) : Mat 128 128 := View.ld U r0_2

/-- The upper half read. -/
theorem upper_apply (U : Vec Ideal S256x128 .f32) (k e : Fin 128) : upper U (ix2 k e) = U (ix2 (Fin.castAdd 128 k) e) :=
  View.ld_unit_apply_of U _ _ _ _ _ fun a => match a with
    | ⟨0, _⟩ => (Nat.zero_add k.val).symm
    | ⟨1, _⟩ => (Nat.zero_add e.val).symm

/-- The lower half read. -/
theorem lower_apply (U : Vec Ideal S256x128 .f32) (k e : Fin 128) : lower U (ix2 k e) = U (ix2 (Fin.natAdd 128 k) e) :=
  View.ld_unit_apply_of U _ _ _ _ _ fun a => match a with
    | ⟨0, _⟩ => rfl
    | ⟨1, _⟩ => (Nat.zero_add e.val).symm

/-! ## The membership matrix -/

/-- The matrix that holds one where the atom's word names the coarse node. -/
def onehot (w : Vec Ideal S1x150 .i32) : Mat 50 150 :=
  sitofp .f32 (extui 32 (cmpi .eq (broadcastTo S50x150 w broadcasts_S1x150_S50x150)
    (iota .tc S50x150 32 [0] iota_S50x150_d0_w32)) natLt_1_32)

/-- Read at an index. -/
theorem onehot_apply (w : Vec Ideal S1x150 .i32) (c : Fin 50) (a : Fin 150) :
    onehot w (ix2 c a) = member (w (ix2 (0 : Fin 1) a)) c := by
  show FloatOps.sitofp (F := Ideal) .f32 ((IntOp.cmpi .eq (broadcastTo S50x150 w broadcasts_S1x150_S50x150 (ix2 c a))
    (iota .tc S50x150 32 [0] iota_S50x150_d0_w32 (ix2 c a))).setWidth 32) = _
  rw [broadcastTo_1b_ab_apply, iota_single_apply]
  show FloatOps.sitofp (F := Ideal) .f32 ((BitVec.ofBool (w (ix2 (0 : Fin 1) a) == BitVec.ofNat 32 c.val)).setWidth 32) = _
  unfold member
  by_cases h : w (ix2 (0 : Fin 1) a) = BitVec.ofNat 32 c.val
  · rw [if_pos h, beq_iff_eq.2 h]
    show ((((BitVec.ofBool true).setWidth 32).toInt : ℝ) : EReal) = 1
    rw [show ((BitVec.ofBool true).setWidth 32).toInt = 1 by decide]
    simp
  · rw [if_neg h, beq_eq_false_iff_ne.2 h]
    show ((((BitVec.ofBool false).setWidth 32).toInt : ℝ) : EReal) = 0
    rw [show ((BitVec.ofBool false).setWidth 32).toInt = 0 by decide]
    simp

/-! ## One molecule -/

/-- The loads of one molecule. -/
structure Loads where
  /-- Its atoms' words. -/
  word : Vec Ideal S1x150 .i32
  /-- Its atoms' features. -/
  fine : Vec Ideal S1x150x128 .f32
  /-- Its coarse nodes' features. -/
  coarse : Vec Ideal S1x50x128 .f32
  /-- Its atoms' global features. -/
  glob : Vec Ideal S1x150x128 .f32

/-- The molecule a set of loads holds. -/
def Loads.molecule (L : Loads) : Molecule where
  node := fun a => L.word (ix2 (0 : Fin 1) a)
  fine := fun a d => L.fine (ix3 (0 : Fin 1) a d)
  coarse := fun c d => L.coarse (ix3 (0 : Fin 1) c d)
  glob := fun a d => L.glob (ix3 (0 : Fin 1) a d)

/-- One row repeated over the atoms. -/
theorem rowsA : (M2 1 128).Broadcasts (M2 150 128) := broadcasts_S1x128_S150x128

/-- One row repeated over the coarse nodes. -/
theorem rowsC : (M2 1 128).Broadcasts (M2 50 128) := broadcasts_S1x128_S50x128

/-- A molecule's atoms as a matrix. -/
def flatA (x : Vec Ideal S1x150x128 .f32) : Mat 150 128 := shapeCast S150x128 x shapeCasts_S1x150x128_S150x128

/-- A molecule's coarse nodes as a matrix. -/
def flatC (x : Vec Ideal S1x50x128 .f32) : Mat 50 128 := shapeCast S50x128 x shapeCasts_S1x50x128_S50x128

/-- Read at an index. -/
theorem flatA_apply (x : Vec Ideal S1x150x128 .f32) (a : Fin 150) (d : Fin 128) :
    flatA x (ix2 a d) = x (ix3 (0 : Fin 1) a d) := shapeCast_1ab_ab_apply x _ a d

/-- Read at an index. -/
theorem flatC_apply (x : Vec Ideal S1x50x128 .f32) (c : Fin 50) (d : Fin 128) :
    flatC x (ix2 c d) = x (ix3 (0 : Fin 1) c d) := shapeCast_1ab_ab_apply x _ c d

/-- A row of the atoms' matrix. -/
theorem flatA_row (x : Vec Ideal S1x150x128 .f32) (a : Fin 150) : row (flatA x) a = fun d => x (ix3 (0 : Fin 1) a d) :=
  funext fun d => flatA_apply x a d

/-- A row of the coarse nodes' matrix. -/
theorem flatC_row (x : Vec Ideal S1x50x128 .f32) (c : Fin 50) : row (flatC x) c = fun d => x (ix3 (0 : Fin 1) c d) :=
  funext fun d => flatC_apply x c d

variable (L : Loads) (T : Tables)

/-- The pooled features. -/
def pooled : Mat 50 128 :=
  divf (times (onehot L.word) (flatA L.fine))
    (maximumf (times (onehot L.word) (fill 150 128 0x3F800000#32)) (fill 50 128 0x3F800000#32))

/-- They are the molecule's. -/
theorem pooled_row (c : Fin 50) : row (pooled L) c = L.molecule.pooled c := by
  funext d
  show Ideal.div (times (onehot L.word) (flatA L.fine) (ix2 c d))
    (max (times (onehot L.word) (fill 150 128 0x3F800000#32) (ix2 c d)) (Ideal.ofBits .f32 0x3F800000#32)) = _
  rw [times_apply, times_apply, Ideal.ofBits_one_f32]
  have h1 : ∀ a : Fin 150, (fill 150 128 0x3F800000#32) (ix2 a d) = (1 : EReal) := fun a => Ideal.ofBits_one_f32
  simp only [h1, onehot_apply, flatA_apply, mul_one]
  rfl

/-- The coarse features named by the atoms. -/
def picked : Mat 150 128 :=
  cross dot_S50x150_S50x128_S150x128_0_0_1_1_n_n_wf (onehot L.word) (flatC L.coarse)

/-- They are the molecule's. -/
theorem picked_row (a : Fin 150) : row (picked L) a = L.molecule.picked a := by
  funext d
  show cross _ (onehot L.word) (flatC L.coarse) (ix2 a d) = _
  rw [cross_apply]
  simp only [onehot_apply, flatC_apply]
  rfl

/-- The mean of the global features, as one row. -/
def globMean : Mat 1 128 :=
  times (broadcast (M2 1 150) (Named.named (F := Ideal) κ "invA" 0x3BDA740E#32)) (flatA L.glob)

/-- It is the molecule's. -/
theorem globMean_row : row (globMean L) 0 = L.molecule.globMean := by
  funext d
  show times _ (flatA L.glob) (ix2 (0 : Fin 1) d) = _
  rw [times_apply]
  have h1 : (Named.named (F := Ideal) κ "invA" (0x3BDA740E#32 : BitVec 32) : Ideal .f32) = ((1 / 150 : ℝ) : EReal) := by
    rw [one_div]
    exact IdealRules.named_const.ideal_named_scalar _ _ _ _ rfl
  show ∑ a, (Named.named (F := Ideal) κ "invA" 0x3BDA740E#32 : Ideal .f32) * flatA L.glob (ix2 a d) = _
  rw [h1]
  simp only [flatA_apply]
  exact sum_real_mul _ _ (by norm_num)

/-- The fine-to-coarse layer. -/
def toCoarse : Mat 50 128 :=
  norm rowsC (affine rowsC (pooled L) (square T.wPool) (vec T.bPool)) (vec T.gPool) (vec T.ePool)

/-- It is the molecule's. -/
theorem toCoarse_row (c : Fin 50) : row (toCoarse L T) c = L.molecule.toCoarse T.weights c := by
  funext d
  show norm rowsC _ _ _ (ix2 c d) = _
  rw [norm_apply, affine_row, pooled_row, vec_eq, vec_eq, vec_eq, square_eq]
  rfl

/-- The coarse-to-fine layer. -/
def toFine : Mat 150 128 :=
  norm rowsA (affine rowsA (picked L) (square T.wPick) (vec T.bPick)) (vec T.gPick) (vec T.ePick)

/-- It is the molecule's. -/
theorem toFine_row (a : Fin 150) : row (toFine L T) a = L.molecule.toFine T.weights a := by
  funext d
  show norm rowsA _ _ _ (ix2 a d) = _
  rw [norm_apply, affine_row, picked_row, vec_eq, vec_eq, vec_eq, square_eq]
  rfl

/-- The gated atoms. -/
def fineMixed : Mat 150 128 :=
  mix (affine2 rowsA (flatA L.fine) (toFine L T) (upper T.wGate) (lower T.wGate) (vec T.bGate)) (flatA L.fine) (toFine L T)

/-- They are the molecule's. -/
theorem fineMixed_row (a : Fin 150) : row (fineMixed L T) a = L.molecule.fineMixed T.weights a := by
  unfold fineMixed
  rw [mix_row rowsA _ _ _ _ _ T.weights.wGate (upper_apply _) (lower_apply _), toFine_row, vec_eq, flatA_row]
  rfl

/-- The gated coarse nodes. -/
def coarseMixed : Mat 50 128 :=
  mix (affine2 rowsC (flatC L.coarse) (toCoarse L T) (upper T.wGate) (lower T.wGate) (vec T.bGate)) (flatC L.coarse)
    (toCoarse L T)

/-- They are the molecule's. -/
theorem coarseMixed_row (c : Fin 50) : row (coarseMixed L T) c = L.molecule.coarseMixed T.weights c := by
  unfold coarseMixed
  rw [mix_row rowsC _ _ _ _ _ T.weights.wGate (upper_apply _) (lower_apply _), toCoarse_row, vec_eq, flatC_row]
  rfl

/-- The updated atoms. -/
def fineNew : Mat 150 128 :=
  bump (fineMixed L T) (norm rowsA
    (affine2 rowsA (fineMixed L T) (flatA L.glob) (upper T.wGlob) (lower T.wGlob) (vec T.bGlob)) (vec T.gGlob) (vec T.eGlob))

/-- They are the molecule's first result. -/
theorem fineNew_row (a : Fin 150) : row (fineNew L T) a = L.molecule.fineOut T.weights a := by
  unfold fineNew
  rw [bump_row rowsA _ _ _ _ _ _ _ a
    (affine2_row rowsA _ _ _ _ _ T.weights.wGlob (upper_apply _) (lower_apply _) a), fineMixed_row, vec_eq, vec_eq, vec_eq,
    flatA_row]
  rfl

/-- The updated coarse nodes. -/
def coarseNew : Mat 50 128 :=
  bump (coarseMixed L T) (norm rowsC
    (affineRow rowsC (coarseMixed L T) (globMean L) (upper T.wGlob) (lower T.wGlob) (vec T.bGlob)) (vec T.gGlob) (vec T.eGlob))

/-- They are the molecule's second result. -/
theorem coarseNew_row (c : Fin 50) : row (coarseNew L T) c = L.molecule.coarseOut T.weights c := by
  unfold coarseNew
  rw [bump_row rowsC _ _ _ _ _ _ _ c
    (affineRow_row rowsC _ _ _ _ _ T.weights.wGlob (upper_apply _) (lower_apply _) c), coarseMixed_row, globMean_row,
    vec_eq, vec_eq, vec_eq]
  rfl

/-- What the kernel stores for the molecule in the first result's buffer. -/
def fineStored : Vec Ideal S1x150x128 .f32 := shapeCast S1x150x128 (fineNew L T) shapeCasts_S150x128_S1x150x128

/-- What it stores in the second result's buffer. -/
def coarseStored : Vec Ideal S1x50x128 .f32 := shapeCast S1x50x128 (coarseNew L T) shapeCasts_S50x128_S1x50x128

/-- The first store read at an index. -/
theorem fineStored_apply (u : Fin 1) (a : Fin 150) (d : Fin 128) :
    fineStored L T (ix3 u a d) = L.molecule.fineOut T.weights a d := by
  unfold fineStored
  rw [shapeCast_ab_1ab_apply]
  exact congrFun (fineNew_row L T a) d

/-- The second store read at an index. -/
theorem coarseStored_apply (u : Fin 1) (c : Fin 50) (d : Fin 128) :
    coarseStored L T (ix3 u c d) = L.molecule.coarseOut T.weights c d := by
  unfold coarseStored
  rw [shapeCast_ab_1ab_apply]
  exact congrFun (coarseNew_row L T c) d

end Cert.KernelIdeal.Slot

end
-- ==== Proof.KernelBlock.lean ====
/- What the kernel's body leaves in the two result buffers: the sixteen stores, one to a molecule of the block, hold
   the two results of `Spec` for the block's molecules. -/
module

public import proofs.«01_k».proof.Proof.KernelSlot

@[expose] public section

noncomputable section

namespace Cert.KernelIdeal.Slot

open Cert.KernelIdeal Cert.KernelIdeal.Gen Cert.Encoder Cert.Encoder.Chip
open Idealize.ShloMosaic Idealize.ShloMosaic.ValueIdx
open scoped BigOperators

/-- A block: sixteen molecules, as the kernel's windows hold them. -/
structure Block where
  /-- The atoms' words. -/
  word : Vec Ideal S16x150 .i32
  /-- The atoms' features. -/
  fine : Vec Ideal S16x150x128 .f32
  /-- The coarse nodes' features. -/
  coarse : Vec Ideal S16x50x128 .f32
  /-- The atoms' global features. -/
  glob : Vec Ideal S16x150x128 .f32

/-- Molecule `b` of a block. -/
def Block.molecule (X : Block) (b : Fin 16) : Molecule where
  node := fun a => X.word (ix2 b a)
  fine := fun a d => X.fine (ix3 b a d)
  coarse := fun c d => X.coarse (ix3 b c d)
  glob := fun a d => X.glob (ix3 b a d)

/-- A slice of one along the first of three axes stays inside. -/
theorem inside3 {n : ℕ} (b : Fin 16) :
    ∀ a, (![b.val, 0, 0] : Fin 3 → ℕ) a + (⟨3, ![1, n, 128]⟩ : Shape).size a ≤ (⟨3, ![16, n, 128]⟩ : Shape).size a :=
  fun a => match a with
    | ⟨0, _⟩ => b.isLt
    | ⟨1, _⟩ => le_of_eq (Nat.zero_add n)
    | ⟨2, _⟩ => le_of_eq (Nat.zero_add 128)

/-- A slice of one along the first of two axes stays inside. -/
theorem inside2 (b : Fin 16) : ∀ a, (![b.val, 0] : Fin 2 → ℕ) a + S1x150.size a ≤ S16x150.size a :=
  fun a => match a with
    | ⟨0, _⟩ => b.isLt
    | ⟨1, _⟩ => le_of_eq (Nat.zero_add 150)

/-- Molecule `b`'s place in a block of atoms' features. -/
abbrev placeA (b : Fin 16) : Rect S16x150x128 := Rect.unit (s := S16x150x128) ![b.val, 0, 0] S1x150x128.size (inside3 b)

/-- Molecule `b`'s place in a block of coarse nodes' features. -/
abbrev placeC (b : Fin 16) : Rect S16x50x128 := Rect.unit (s := S16x50x128) ![b.val, 0, 0] S1x50x128.size (inside3 b)

/-- Molecule `b`'s place in a block of words. -/
abbrev placeW (b : Fin 16) : Rect S16x150 := Rect.unit (s := S16x150) ![b.val, 0] S1x150.size (inside2 b)

/-- The loads the kernel makes for molecule `b`. -/
def Block.loads (X : Block) (b : Fin 16) : Loads where
  word := View.ld X.word (placeW b)
  fine := View.ld X.fine (placeA b)
  coarse := View.ld X.coarse (placeC b)
  glob := View.ld X.glob (placeA b)

/-- A molecule's slice of a block of atoms' features, at an index. -/
theorem ldA (x : Vec Ideal S16x150x128 .f32) (b : Fin 16) (a : Fin 150) (d : Fin 128) :
    View.ld x (placeA b) (ix3 (0 : Fin 1) a d) = x (ix3 b a d) :=
  View.ld_unit_apply_of x _ _ _ _ _ fun c => match c with
    | ⟨0, _⟩ => rfl
    | ⟨1, _⟩ => (Nat.zero_add a.val).symm
    | ⟨2, _⟩ => (Nat.zero_add d.val).symm

/-- A molecule's slice of a block of coarse nodes' features, at an index. -/
theorem ldC (x : Vec Ideal S16x50x128 .f32) (b : Fin 16) (a : Fin 50) (d : Fin 128) :
    View.ld x (placeC b) (ix3 (0 : Fin 1) a d) = x (ix3 b a d) :=
  View.ld_unit_apply_of x _ _ _ _ _ fun c => match c with
    | ⟨0, _⟩ => rfl
    | ⟨1, _⟩ => (Nat.zero_add a.val).symm
    | ⟨2, _⟩ => (Nat.zero_add d.val).symm

/-- A molecule's slice of a block of words, at an index. -/
theorem ldW (x : Vec Ideal S16x150 .i32) (b : Fin 16) (a : Fin 150) :
    View.ld x (placeW b) (ix2 (0 : Fin 1) a) = x (ix2 b a) :=
  View.ld_unit_apply_of x _ _ _ _ _ fun c => match c with
    | ⟨0, _⟩ => rfl
    | ⟨1, _⟩ => (Nat.zero_add a.val).symm

/-- The loads hold the block's molecule. -/
theorem loads_molecule (X : Block) (b : Fin 16) : (X.loads b).molecule = X.molecule b := by
  unfold Loads.molecule Block.loads Block.molecule
  rw [Molecule.mk.injEq]
  exact ⟨funext fun a => ldW _ b a, funext fun a => funext fun d => ldA _ b a d, funext fun c => funext fun d => ldC _ b c d,
    funext fun a => funext fun d => ldA _ b a d⟩

/-- The molecules of a block, in the order of the list of stores: the last store first. -/
def order : List (Fin 16) := [15, 14, 13, 12, 11, 10, 9, 8, 7, 6, 5, 4, 3, 2, 1, 0]

/-- Every molecule of the block is stored. -/
theorem mem_order (b : Fin 16) : b ∈ order := by
  revert b
  decide

variable (X : Block) (T : Tables)

/-- The store of molecule `b` in the first result's buffer. -/
def pieceA (b : Fin 16) : View.Piece (Elt Ideal) S16x150x128 .f32 := ⟨placeA b, fineStored (X.loads b) T⟩

/-- The store of molecule `b` in the second result's buffer. -/
def pieceC (b : Fin 16) : View.Piece (Elt Ideal) S16x50x128 .f32 := ⟨placeC b, coarseStored (X.loads b) T⟩

/-- The first result's buffer is its sixteen stores. -/
theorem out18_eq : out0_18 (F := Ideal) X.word X.fine X.coarse X.glob T.wPool T.wPick T.wGate T.wGlob T.bPool T.gPool T.ePool
    T.bPick T.gPick T.ePick T.bGate T.bGlob T.gGlob T.eGlob = View.canon (order.map (pieceA X T)) := rfl

/-- The second result's buffer is its sixteen stores. -/
theorem out19_eq : out0_19 (F := Ideal) X.word X.fine X.coarse X.glob T.wPool T.wPick T.wGate T.wGlob T.bPool T.gPool T.ePool
    T.bPick T.gPick T.ePick T.bGate T.bGlob T.gGlob T.eGlob = View.canon (order.map (pieceC X T)) := rfl

/-- An index of a slice, placed in the block of atoms. -/
theorem placeA_idx (b : Fin 16) (u : Fin 1) (a : Fin 150) (d : Fin 128) :
    (placeA b).emb (ix3 u a d) = ix3 b a d :=
  funext fun c => Fin.ext ((Rect.idx_unit_val _ _ _ _ c).trans (match c with
    | ⟨0, _⟩ => by show b.val + u.val = b.val; omega
    | ⟨1, _⟩ => Nat.zero_add a.val
    | ⟨2, _⟩ => Nat.zero_add d.val))

/-- An index of a slice, placed in the block of coarse nodes. -/
theorem placeC_idx (b : Fin 16) (u : Fin 1) (a : Fin 50) (d : Fin 128) :
    (placeC b).emb (ix3 u a d) = ix3 b a d :=
  funext fun c => Fin.ext ((Rect.idx_unit_val _ _ _ _ c).trans (match c with
    | ⟨0, _⟩ => by show b.val + u.val = b.val; omega
    | ⟨1, _⟩ => Nat.zero_add a.val
    | ⟨2, _⟩ => Nat.zero_add d.val))

/-- A placed index lies in the place. -/
theorem emb_mem {s : Shape} (r : Rect s) (x : r.shape.Idx) : r.emb x ∈ r.set := r.idx_mem x

/-- The first result's buffer after the body: the molecules' first results. -/
theorem out18_apply (b : Fin 16) (a : Fin 150) (d : Fin 128) :
    out0_18 (F := Ideal) X.word X.fine X.coarse X.glob T.wPool T.wPick T.wGate T.wGlob T.bPool T.gPool T.ePool
      T.bPick T.gPick T.ePick T.bGate T.bGlob T.gGlob T.eGlob (ix3 b a d) = (X.molecule b).fineOut T.weights a d := by
  rw [out18_eq]
  refine View.canon_apply_of_pieces (fun y : S16x150x128.Idx => (X.molecule (y 0)).fineOut T.weights (y 1) (y 2))
    (order.map (pieceA X T)) (fun p hp x => ?_) (ix3 b a d)
    ⟨pieceA X T b, List.mem_map.2 ⟨b, mem_order b, rfl⟩, by
      rw [← placeA_idx b 0 a d]
      exact emb_mem (placeA b) _⟩
  obtain ⟨b', -, rfl⟩ := List.mem_map.1 hp
  obtain ⟨u, a', d', rfl⟩ : ∃ (u : Fin 1) (a' : Fin 150) (d' : Fin 128), x = ix3 u a' d' := ⟨_, _, _, eq_ix3 x⟩
  show fineStored (X.loads b') T (ix3 u a' d') = (fun y : S16x150x128.Idx => (X.molecule (y 0)).fineOut T.weights (y 1) (y 2))
    ((placeA b').emb (ix3 u a' d'))
  rw [fineStored_apply, loads_molecule, placeA_idx]

/-- The second result's buffer after the body: the molecules' second results. -/
theorem out19_apply (b : Fin 16) (c : Fin 50) (d : Fin 128) :
    out0_19 (F := Ideal) X.word X.fine X.coarse X.glob T.wPool T.wPick T.wGate T.wGlob T.bPool T.gPool T.ePool
      T.bPick T.gPick T.ePick T.bGate T.bGlob T.gGlob T.eGlob (ix3 b c d) = (X.molecule b).coarseOut T.weights c d := by
  rw [out19_eq]
  refine View.canon_apply_of_pieces (fun y : S16x50x128.Idx => (X.molecule (y 0)).coarseOut T.weights (y 1) (y 2))
    (order.map (pieceC X T)) (fun p hp x => ?_) (ix3 b c d)
    ⟨pieceC X T b, List.mem_map.2 ⟨b, mem_order b, rfl⟩, by
      rw [← placeC_idx b 0 c d]
      exact emb_mem (placeC b) _⟩
  obtain ⟨b', -, rfl⟩ := List.mem_map.1 hp
  obtain ⟨u, c', d', rfl⟩ : ∃ (u : Fin 1) (c' : Fin 50) (d' : Fin 128), x = ix3 u c' d' := ⟨_, _, _, eq_ix3 x⟩
  show coarseStored (X.loads b') T (ix3 u c' d') = (fun y : S16x50x128.Idx => (X.molecule (y 0)).coarseOut T.weights (y 1) (y 2))
    ((placeC b').emb (ix3 u c' d'))
  rw [coarseStored_apply, loads_molecule, placeC_idx]

end Cert.KernelIdeal.Slot

end
-- ==== Proof.KernelArrays.lean ====
/- The kernel's two result arrays after its run: block by block the body's results, so the two results of `Spec` at
   every molecule. -/
module

public import proofs.«01_k».proof.Proof.KernelBlock
public import proofs.«01_k».proof.Proof.Gen.KernelIdeal.Value
public import Idealize.ShloMosaic.Lib.Pipeline.ValueKit.Geometry

@[expose] public section

noncomputable section

namespace Cert.KernelIdeal.Slot

open Cert.KernelIdeal Cert.KernelIdeal.Gen Cert.Encoder
open Idealize.ShloMosaic Idealize.ShloMosaic.TcCoe Idealize.ShloMosaic.ValueIdx Idealize.SL.Sem
open scoped BigOperators

variable (m : (ℓ : Loc nD τ sig) → Buf (Elt Ideal) ℓ)

/-- Molecule `n` of the launch's arguments. -/
def launched (c : Dev nD) (n : Fin 1024) : Molecule where
  node := fun a => (m ((c : Thread nD τ).loc main_arg17) : Vec Ideal S1024x150 .i32) (ix2 n a)
  fine := fun a d => (m ((c : Thread nD τ).loc main_arg0) : Vec Ideal S1024x150x128 .f32) (ix3 n a d)
  coarse := fun k d => (m ((c : Thread nD τ).loc main_arg1) : Vec Ideal S1024x50x128 .f32) (ix3 n k d)
  glob := fun a d => (m ((c : Thread nD τ).loc main_arg2) : Vec Ideal S1024x150x128 .f32) (ix3 n a d)

/-- The weights of the launch's arguments. -/
def launchedWeights (c : Dev nD) : Weights where
  wPool := fun k e => (m ((c : Thread nD τ).loc main_arg3) : Vec Ideal S128x128 .f32) (ix2 k e)
  bPool := fun e => (m ((c : Thread nD τ).loc main_arg4) : Vec Ideal S128 .f32) (ix1 e)
  gPool := fun e => (m ((c : Thread nD τ).loc main_arg5) : Vec Ideal S128 .f32) (ix1 e)
  ePool := fun e => (m ((c : Thread nD τ).loc main_arg6) : Vec Ideal S128 .f32) (ix1 e)
  wPick := fun k e => (m ((c : Thread nD τ).loc main_arg7) : Vec Ideal S128x128 .f32) (ix2 k e)
  bPick := fun e => (m ((c : Thread nD τ).loc main_arg8) : Vec Ideal S128 .f32) (ix1 e)
  gPick := fun e => (m ((c : Thread nD τ).loc main_arg9) : Vec Ideal S128 .f32) (ix1 e)
  ePick := fun e => (m ((c : Thread nD τ).loc main_arg10) : Vec Ideal S128 .f32) (ix1 e)
  wGate := fun k e => (m ((c : Thread nD τ).loc main_arg11) : Vec Ideal S256x128 .f32) (ix2 k e)
  bGate := fun e => (m ((c : Thread nD τ).loc main_arg12) : Vec Ideal S128 .f32) (ix1 e)
  wGlob := fun k e => (m ((c : Thread nD τ).loc main_arg13) : Vec Ideal S256x128 .f32) (ix2 k e)
  bGlob := fun e => (m ((c : Thread nD τ).loc main_arg14) : Vec Ideal S128 .f32) (ix1 e)
  gGlob := fun e => (m ((c : Thread nD τ).loc main_arg15) : Vec Ideal S128 .f32) (ix1 e)
  eGlob := fun e => (m ((c : Thread nD τ).loc main_arg16) : Vec Ideal S128 .f32) (ix1 e)

/-! ## The blocks' places -/

/-- Grid point `t` takes the block `t` of the words. -/
theorem index0 : ∀ t : Fin cfg0.N, win0_0.index t = ![t.val, 0] := (by decide +kernel : ∀ t : Fin grid0.N, win0_0.index t = ![t.val, 0])
/-- Of the atoms' features. -/
theorem index1 : ∀ t : Fin cfg0.N, win0_1.index t = ![t.val, 0, 0] := (by decide +kernel : ∀ t : Fin grid0.N, win0_1.index t = ![t.val, 0, 0])
/-- Of the coarse nodes' features. -/
theorem index2 : ∀ t : Fin cfg0.N, win0_2.index t = ![t.val, 0, 0] := (by decide +kernel : ∀ t : Fin grid0.N, win0_2.index t = ![t.val, 0, 0])
/-- Of the atoms' global features. -/
theorem index3 : ∀ t : Fin cfg0.N, win0_3.index t = ![t.val, 0, 0] := (by decide +kernel : ∀ t : Fin grid0.N, win0_3.index t = ![t.val, 0, 0])
/-- Of the first result. -/
theorem index18 : ∀ t : Fin cfg0.N, win0_18.index t = ![t.val, 0, 0] := (by decide +kernel : ∀ t : Fin grid0.N, win0_18.index t = ![t.val, 0, 0])
/-- Of the second result. -/
theorem index19 : ∀ t : Fin cfg0.N, win0_19.index t = ![t.val, 0, 0] := (by decide +kernel : ∀ t : Fin grid0.N, win0_19.index t = ![t.val, 0, 0])
/-- The tables are taken whole at every point. -/
theorem indexT : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0])

/-- Molecule `b` of block `t` among all the molecules. -/
def number (t : Fin cfg0.N) (b : Fin 16) : Fin 1024 :=
  ⟨t.val * 16 + b.val, by have h := t.isLt; have hN : cfg0.N = 64 := N_0; have := b.isLt; omega⟩

/-- The block at grid point `t`. -/
def block (c : Dev nD) (t : Fin cfg0.N) : Block where
  word := iblk m c 0 t
  fine := iblk m c 1 t
  coarse := iblk m c 2 t
  glob := iblk m c 3 t

/-- The tables at grid point `t`. -/
def tables (c : Dev nD) (t : Fin cfg0.N) : Tables where
  wPool := iblk m c 4 t
  wPick := iblk m c 5 t
  wGate := iblk m c 6 t
  wGlob := iblk m c 7 t
  bPool := iblk m c 8 t
  gPool := iblk m c 9 t
  ePool := iblk m c 10 t
  bPick := iblk m c 11 t
  gPick := iblk m c 12 t
  ePick := iblk m c 13 t
  bGate := iblk m c 14 t
  bGlob := iblk m c 15 t
  gGlob := iblk m c 16 t
  eGlob := iblk m c 17 t

/-! ## The blocks read -/

/-- Sixteen molecules' matrices out of 1024, read at an index. -/
theorem take3 {n : ℕ} (x : Vec Ideal ⟨3, ![1024, n, 128]⟩ .f32) (t : Fin cfg0.N) {f : Fin 3 → ℕ} (h : f = ![t.val, 0, 0])
    (inb : ∀ a, f a * (![16, n, 128] : Fin 3 → ℕ) a + (![16, n, 128] : Fin 3 → ℕ) a ≤ (![1024, n, 128] : Fin 3 → ℕ) a)
    (b : Fin 16) (a : Fin n) (d : Fin 128) :
    View.ld (S := ⟨3, ![1024, n, 128]⟩) x (Rect.unit (fun a => f a * (![16, n, 128] : Fin 3 → ℕ) a) ![16, n, 128] inb) (ix3 b a d)
      = x (ix3 (number t b) a d) := by
  subst h
  refine View.ld_unit_apply_of (S := ⟨3, ![1024, n, 128]⟩) x _ _ _ _ _ fun k => ?_
  match k with
  | ⟨0, _⟩ => rfl
  | ⟨1, _⟩ => show a.val = 0 * n + a.val; omega
  | ⟨2, _⟩ => show d.val = 0 * 128 + d.val; omega

/-- Sixteen molecules' words out of 1024, read at an index. -/
theorem take2 (x : Vec Ideal S1024x150 .i32) (t : Fin cfg0.N) {f : Fin 2 → ℕ} (h : f = ![t.val, 0])
    (inb : ∀ a, f a * (![16, 150] : Fin 2 → ℕ) a + (![16, 150] : Fin 2 → ℕ) a ≤ (![1024, 150] : Fin 2 → ℕ) a)
    (b : Fin 16) (a : Fin 150) :
    View.ld (S := S1024x150) x (Rect.unit (fun a => f a * (![16, 150] : Fin 2 → ℕ) a) ![16, 150] inb) (ix2 b a)
      = x (ix2 (number t b) a) := by
  subst h
  refine View.ld_unit_apply_of (S := S1024x150) x _ _ _ _ _ fun k => ?_
  match k with
  | ⟨0, _⟩ => rfl
  | ⟨1, _⟩ => show a.val = 0 * 150 + a.val; omega

/-- The block of words at an index. -/
theorem word_apply (c : Dev nD) (t : Fin cfg0.N) (b : Fin 16) (a : Fin 150) :
    (block m c t).word (ix2 b a) = (launched m c (number t b)).node a :=
  (take2 (V m c main_arg17) t (index0 t) _ b a).trans
    (congrFun (V_main_arg17 m c) _)

/-- The block of atoms' features at an index. -/
theorem fine_apply (c : Dev nD) (t : Fin cfg0.N) (b : Fin 16) (a : Fin 150) (d : Fin 128) :
    (block m c t).fine (ix3 b a d) = (launched m c (number t b)).fine a d :=
  (take3 (V m c main_arg0) t (index1 t) _ b a d).trans (congrFun (V_main_arg0 m c) _)

/-- The block of coarse nodes' features at an index. -/
theorem coarse_apply (c : Dev nD) (t : Fin cfg0.N) (b : Fin 16) (k : Fin 50) (d : Fin 128) :
    (block m c t).coarse (ix3 b k d) = (launched m c (number t b)).coarse k d :=
  (take3 (V m c main_arg1) t (index2 t) _ b k d).trans (congrFun (V_main_arg1 m c) _)

/-- The block of atoms' global features at an index. -/
theorem glob_apply (c : Dev nD) (t : Fin cfg0.N) (b : Fin 16) (a : Fin 150) (d : Fin 128) :
    (block m c t).glob (ix3 b a d) = (launched m c (number t b)).glob a d :=
  (take3 (V m c main_arg2) t (index3 t) _ b a d).trans (congrFun (V_main_arg2 m c) _)

/-- The block's molecules are the launch's. -/
theorem block_molecule (c : Dev nD) (t : Fin cfg0.N) (b : Fin 16) :
    (block m c t).molecule b = launched m c (number t b) :=
  show Molecule.mk _ _ _ _ = Molecule.mk _ _ _ _ from (Molecule.mk.injEq ..).mpr
    ⟨funext fun a => word_apply m c t b a, funext fun a => funext fun d => fine_apply m c t b a d,
      funext fun k => funext fun d => coarse_apply m c t b k d, funext fun a => funext fun d => glob_apply m c t b a d⟩

/-! ## The tables read -/

/-- A place at the origin has offset zero. -/
theorem zero2 {f : Fin 2 → ℕ} {p q : ℕ} (h : f = ![0, 0]) : (fun a => f a * (![p, q] : Fin 2 → ℕ) a) = fun _ => 0 := by
  subst h
  funext a
  match a with
  | ⟨0, _⟩ => exact Nat.zero_mul _
  | ⟨1, _⟩ => exact Nat.zero_mul _

/-- The matrices at every point are the arguments. -/
theorem matrices (c : Dev nD) (t : Fin cfg0.N) :
    (tables m c t).wPool = m ((c : Thread nD τ).loc main_arg3)
      ∧ (tables m c t).wPick = m ((c : Thread nD τ).loc main_arg7)
      ∧ (tables m c t).wGate = m ((c : Thread nD τ).loc main_arg11)
      ∧ (tables m c t).wGlob = m ((c : Thread nD τ).loc main_arg13) :=
  ⟨(View.ld_unit_zero (S := S128x128) (off := fun a => win0_4.index t a * S128x128.size a) (zero2 (indexT t).1) _ (V m c main_arg3)).trans (V_main_arg3 m c),
    (View.ld_unit_zero (S := S128x128) (off := fun a => win0_5.index t a * S128x128.size a) (zero2 (indexT t).2.1) _ (V m c main_arg7)).trans (V_main_arg7 m c),
    (View.ld_unit_zero (S := S256x128) (off := fun a => win0_6.index t a * S256x128.size a) (zero2 (indexT t).2.2.1) _ (V m c main_arg11)).trans (V_main_arg11 m c),
    (View.ld_unit_zero (S := S256x128) (off := fun a => win0_7.index t a * S256x128.size a) (zero2 (indexT t).2.2.2.1) _ (V m c main_arg13)).trans (V_main_arg13 m c)⟩

/-- The vectors at every point are the ones made before the kernel. -/
theorem vectors (c : Dev nD) (t : Fin cfg0.N) :
    (tables m c t).bPool = V m c main_v0
      ∧ (tables m c t).gPool = V m c main_v1
      ∧ (tables m c t).ePool = V m c main_v2
      ∧ (tables m c t).bPick = V m c main_v3
      ∧ (tables m c t).gPick = V m c main_v4
      ∧ (tables m c t).ePick = V m c main_v5
      ∧ (tables m c t).bGate = V m c main_v6
      ∧ (tables m c t).bGlob = V m c main_v7
      ∧ (tables m c t).gGlob = V m c main_v8
      ∧ (tables m c t).eGlob = V m c main_v9 :=
  ⟨View.ld_unit_zero (S := S1x128) (off := fun a => win0_8.index t a * S1x128.size a) (zero2 (indexT t).2.2.2.2.1) _ (V m c main_v0),
    View.ld_unit_zero (S := S1x128) (off := fun a => win0_9.index t a * S1x128.size a) (zero2 (indexT t).2.2.2.2.2.1) _ (V m c main_v1),
    View.ld_unit_zero (S := S1x128) (off := fun a => win0_10.index t a * S1x128.size a) (zero2 (indexT t).2.2.2.2.2.2.1) _ (V m c main_v2),
    View.ld_unit_zero (S := S1x128) (off := fun a => win0_11.index t a * S1x128.size a) (zero2 (indexT t).2.2.2.2.2.2.2.1) _ (V m c main_v3),
    View.ld_unit_zero (S := S1x128) (off := fun a => win0_12.index t a * S1x128.size a) (zero2 (indexT t).2.2.2.2.2.2.2.2.1) _ (V m c main_v4),
    View.ld_unit_zero (S := S1x128) (off := fun a => win0_13.index t a * S1x128.size a) (zero2 (indexT t).2.2.2.2.2.2.2.2.2.1) _ (V m c main_v5),
    View.ld_unit_zero (S := S1x128) (off := fun a => win0_14.index t a * S1x128.size a) (zero2 (indexT t).2.2.2.2.2.2.2.2.2.2.1) _ (V m c main_v6),
    View.ld_unit_zero (S := S1x128) (off := fun a => win0_15.index t a * S1x128.size a) (zero2 (indexT t).2.2.2.2.2.2.2.2.2.2.2.1) _ (V m c main_v7),
    View.ld_unit_zero (S := S1x128) (off := fun a => win0_16.index t a * S1x128.size a) (zero2 (indexT t).2.2.2.2.2.2.2.2.2.2.2.2.1) _ (V m c main_v8),
    View.ld_unit_zero (S := S1x128) (off := fun a => win0_17.index t a * S1x128.size a) (zero2 (indexT t).2.2.2.2.2.2.2.2.2.2.2.2.2) _ (V m c main_v9)⟩

/-- A vector made a row of one, read at an index. -/
theorem lifted (x : Vec Ideal S128 .f32) (e : Fin 128) :
    shapeCast S1x128 x shapeCasts_S128_S1x128 (ix2 (0 : Fin 1) e) = x (ix1 e) := shapeCast_a_1a_apply x _ 0 e

/-- The tables hold the launch's weights. -/
theorem tables_weights (c : Dev nD) (t : Fin cfg0.N) : (tables m c t).weights = launchedWeights m c := by
  obtain ⟨h4, h5, h6, h7⟩ := matrices m c t
  obtain ⟨h8, h9, h10, h11, h12, h13, h14, h15, h16, h17⟩ := vectors m c t
  unfold Tables.weights launchedWeights
  rw [h4, h5, h6, h7, h8, h9, h10, h11, h12, h13, h14, h15, h16, h17]
  entry_read
  rw [Weights.mk.injEq]
  exact ⟨rfl, funext fun e => lifted _ e, funext fun e => lifted _ e, funext fun e => lifted _ e, rfl,
    funext fun e => lifted _ e, funext fun e => lifted _ e, funext fun e => lifted _ e, rfl, funext fun e => lifted _ e, rfl,
    funext fun e => lifted _ e, funext fun e => lifted _ e, funext fun e => lifted _ e⟩

/-! ## The arrays -/

/-- The first result as a whole array. -/
def fineResult (c : Dev nD) : Vec Ideal S1024x150x128 .f32 :=
  fun y => (launched m c (y 0)).fineOut (launchedWeights m c) (y 1) (y 2)

/-- The second result as a whole array. -/
def coarseResult (c : Dev nD) : Vec Ideal S1024x50x128 .f32 :=
  fun y => (launched m c (y 0)).coarseOut (launchedWeights m c) (y 1) (y 2)

/-- What grid point `t` leaves in the first result's buffer. -/
theorem after18 (c : Dev nD) (t : Fin cfg0.N) (b : Fin 16) (a : Fin 150) (d : Fin 128) :
    (dats m 0 c).after 18 t (ix3 b a d) = fineResult m c (ix3 (number t b) a d) := by
  refine (congrFun (after0_18 m c t) _).trans ((out18_apply (block m c t) (tables m c t) b a d).trans ?_)
  rw [block_molecule, tables_weights]
  rfl

/-- What grid point `t` leaves in the second result's buffer. -/
theorem after19 (c : Dev nD) (t : Fin cfg0.N) (b : Fin 16) (k : Fin 50) (d : Fin 128) :
    (dats m 0 c).after 19 t (ix3 b k d) = coarseResult m c (ix3 (number t b) k d) := by
  refine (congrFun (after0_19 m c t) _).trans ((out19_apply (block m c t) (tables m c t) b k d).trans ?_)
  rw [block_molecule, tables_weights]
  rfl

/-- The first result's array after the run. -/
theorem array18 (c : Dev nD) : (dats m 0 c).arrAt 18 cfg0.N = fineResult m c := by
  refine (dats m 0 c).arrAt_eq_of_covers 18 (fineResult m c) (by decide +kernel) fun t _ y => ?_
  obtain ⟨b, a, d, rfl⟩ : ∃ (b : Fin 16) (a : Fin 150) (d : Fin 128), y = ix3 b a d := ⟨_, _, _, eq_ix3 y⟩
  refine (after18 m c t b a d).trans ?_
  exact (take3 (fineResult m c) t (index18 t) _ b a d).symm

/-- The second result's array after the run. -/
theorem array19 (c : Dev nD) : (dats m 0 c).arrAt 19 cfg0.N = coarseResult m c := by
  refine (dats m 0 c).arrAt_eq_of_covers 19 (coarseResult m c) (by decide +kernel) fun t _ y => ?_
  obtain ⟨b, k, d, rfl⟩ : ∃ (b : Fin 16) (k : Fin 50) (d : Fin 128), y = ix3 b k d := ⟨_, _, _, eq_ix3 y⟩
  refine (after19 m c t b k d).trans ?_
  exact (take3 (coarseResult m c) t (index19 t) _ b k d).symm

end Cert.KernelIdeal.Slot

end
-- ==== Proof.HostLayer.lean ====
/- The reference's layer normalisation, gate and update as functions of whole arrays, at any number `n` of rows to a
   molecule, each read at an index as the row function of `Spec`. -/
module

public import proofs.«01_k».proof.Proof.Algebra
public import Idealize.ShloMosaic.Lib.Pipeline.Value
public import Idealize.ShloMosaic.Lib.ValueIdx

@[expose] public section

noncomputable section

namespace Cert.Encoder.Host

open Idealize.ShloMosaic Idealize.ShloMosaic.ValueIdx
open scoped BigOperators

/-- Per-molecule matrices of `n` rows and `m` columns. -/
abbrev A3 (n m : ℕ) : Shape := ⟨3, ![1024, n, m]⟩
/-- The scalar shape. -/
abbrev A0 : Shape := ⟨0, ![]⟩
/-- A vector of 128. -/
abbrev A1 : Shape := ⟨1, ![128]⟩

/-- The shape relations the reference's layers state, at `n` rows to a molecule. -/
structure Facts (n : ℕ) : Prop where
  /-- A scalar fills a column of every molecule. -/
  col : A0.BroadcastsInDim (A3 n 1) ![]
  /-- A scalar fills a matrix of every molecule. -/
  full : A0.BroadcastsInDim (A3 n 128) ![]
  /-- A number to a row is a column. -/
  keep : (⟨2, ![1024, n]⟩ : Shape).BroadcastsInDim (A3 n 1) ![0, 1]
  /-- A column is repeated along the rows. -/
  wide : (A3 n 1).BroadcastsInDim (A3 n 128) ![0, 1, 2]
  /-- A vector is one row. -/
  lift : A1.BroadcastsInDim ⟨3, ![1, 1, 128]⟩ ![2]
  /-- One row is repeated. -/
  rows : (⟨3, ![1, 1, 128]⟩ : Shape).BroadcastsInDim (A3 n 128) ![0, 1, 2]
  /-- The last axis is summed away. -/
  sums : (A3 n 128).ReducesTo [2] ⟨2, ![1024, n]⟩
  /-- The same, as the index-inserting relation. -/
  sums' : (A3 n 128).Reduces [2] ⟨2, ![1024, n]⟩
  /-- A scalar has an element. -/
  one : 0 < A0.numel

variable {n : ℕ} (H : Facts n)

/-- A column repeated along its rows reads the column. -/
theorem wide_apply {α : Type} (x : (A3 n 1).Idx → α) (b : Fin 1024) (a : Fin n) (d : Fin 128) :
    broadcastInDim (A3 n 128) ![0, 1, 2] H.wide x (ix3 b a d) = x (ix3 b a (0 : Fin 1)) :=
  broadcastInDim_apply _ H.wide x _ _ fun c => match c with
    | ⟨0, _⟩ => by show b.val = if (1024 : ℕ) = 1 then 0 else b.val; rw [if_neg (by decide)]
    | ⟨1, _⟩ => by
      show a.val = if n = 1 then 0 else a.val
      have := a.isLt
      split <;> omega
    | ⟨2, _⟩ => by show 0 = if (1 : ℕ) = 1 then 0 else d.val; rw [if_pos rfl]

/-- A number to a row read as a column. -/
theorem keep_apply {α : Type} (x : (⟨2, ![1024, n]⟩ : Shape).Idx → α) (b : Fin 1024) (a : Fin n) :
    broadcastInDim (A3 n 1) ![0, 1] H.keep x (ix3 b a (0 : Fin 1)) = x (ix2 b a) :=
  broadcastInDim_apply _ H.keep x _ _ fun c => match c with
    | ⟨0, _⟩ => by show b.val = if (1024 : ℕ) = 1 then 0 else b.val; rw [if_neg (by decide)]
    | ⟨1, _⟩ => by
      show a.val = if n = 1 then 0 else a.val
      have := a.isLt
      split <;> omega

/-- A vector repeated as a row reads the vector. -/
theorem rows_apply {α : Type} (x : A1.Idx → α) (b : Fin 1024) (a : Fin n) (d : Fin 128) :
    broadcastInDim (A3 n 128) ![0, 1, 2] H.rows (broadcastInDim ⟨3, ![1, 1, 128]⟩ ![2] H.lift x) (ix3 b a d) = x (ix1 d) := by
  refine (broadcastInDim_apply _ H.rows _ _ (ix3 (0 : Fin 1) (0 : Fin 1) d) fun c => ?_).trans
    (broadcastInDim_apply _ H.lift x _ _ fun c => ?_)
  · match c with
    | ⟨0, _⟩ => show 0 = if (1 : ℕ) = 1 then 0 else b.val; rw [if_pos rfl]
    | ⟨1, _⟩ => show 0 = if (1 : ℕ) = 1 then 0 else a.val; rw [if_pos rfl]
    | ⟨2, _⟩ => show d.val = if (128 : ℕ) = 1 then 0 else d.val; rw [if_neg (by decide)]
  · match c with
    | ⟨0, _⟩ => show d.val = if (128 : ℕ) = 1 then 0 else d.val; rw [if_neg (by decide)]

/-- The column of the rows' sums. -/
def sumCol (x : FVec Ideal (A3 n 128) .f32) : FVec Ideal (A3 n 1) .f32 :=
  broadcastInDim (A3 n 1) ![0, 1] H.keep (Host.reduceAdd x (constant A0 .f32 0x00000000#32) H.sums H.one)

/-- The column of sums at a row is that row's sum. -/
theorem sumCol_apply (x : FVec Ideal (A3 n 128) .f32) (b : Fin 1024) (a : Fin n) :
    sumCol H x (ix3 b a (0 : Fin 1)) = ∑ k : Fin 128, x (ix3 b a k) := by
  unfold sumCol
  rw [keep_apply H, hostReduceAdd_apply, Ideal.hostReduceAdd_single H.sums H.sums', constant_apply]
  simp only [Ideal.ofBits_def, Ideal.ofBits_zero_f32, zero_add]
  refine Finset.sum_congr rfl fun k _ => congrArg x (funext fun c => Fin.ext ?_)
  match c with
  | ⟨0, _⟩ => rfl
  | ⟨1, _⟩ => rfl
  | ⟨2, _⟩ => rfl

/-- The column of the rows' means. -/
def meanCol (x : FVec Ideal (A3 n 128) .f32) : FVec Ideal (A3 n 1) .f32 :=
  Host.divf (sumCol H x) (broadcastInDim (A3 n 1) ![] H.col (constant A0 .f32 0x43000000#32))

/-- The column of means at a row is that row's mean. -/
theorem meanCol_apply (x : FVec Ideal (A3 n 128) .f32) (b : Fin 1024) (a : Fin n) :
    meanCol H x (ix3 b a (0 : Fin 1)) = mean fun k => x (ix3 b a k) := by
  unfold meanCol mean
  rw [hostDivf_apply, broadcastInDim_scalar_apply, sumCol_apply, constant_apply, ofBits_128,
    Ideal.div_coe (by norm_num)]

/-- Each row less its mean. -/
def centre (x : FVec Ideal (A3 n 128) .f32) : FVec Ideal (A3 n 128) .f32 :=
  subf x (broadcastInDim (A3 n 128) ![0, 1, 2] H.wide (meanCol H x))

/-- A row less its mean, read at an index. -/
theorem centre_apply (x : FVec Ideal (A3 n 128) .f32) (b : Fin 1024) (a : Fin n) (d : Fin 128) :
    centre H x (ix3 b a d) = centred (fun k => x (ix3 b a k)) d := by
  show x (ix3 b a d) - broadcastInDim (A3 n 128) ![0, 1, 2] H.wide (meanCol H x) (ix3 b a d) = _
  rw [wide_apply H, meanCol_apply]
  rfl

/-- The number of elements of a row less the correction, as the variance's divisor is computed. -/
def count : FVec Ideal A0 .f32 := subf (constant A0 .f32 0x43000000#32) (sitofp .f32 (constantI A0 32 0#32))

/-- It is 128. -/
theorem count_apply (i : A0.Idx) : count i = ((128 : ℝ) : EReal) := by
  show Ideal.ofBits .f32 0x43000000#32 - ((((0#32 : BitVec 32).toInt : ℝ)) : EReal) = _
  rw [ofBits_128]
  simp

/-- The column of the rows' variances: a quotient guarded by the count's being positive. -/
def varCol (x : FVec Ideal (A3 n 128) .f32) : FVec Ideal (A3 n 1) .f32 :=
  select (broadcastInDim (A3 n 1) ![] H.col (cmpf .ogt count (constant A0 .f32 0x00000000#32)))
    (Host.divf (sumCol H (mulf (centre H x) (centre H x))) (broadcastInDim (A3 n 1) ![] H.col count))
    (broadcastInDim (A3 n 1) ![] H.col (id (constant A0 .f32 0x7FC00000#32)))

/-- The column of variances at a row is that row's variance. -/
theorem varCol_apply (x : FVec Ideal (A3 n 128) .f32) (b : Fin 1024) (a : Fin n) :
    varCol H x (ix3 b a (0 : Fin 1)) = variance fun k => x (ix3 b a k) := by
  unfold varCol
  rw [select_apply, broadcastInDim_scalar_apply, cmpf_apply, count_apply, constant_apply, Ideal.cmpf_def,
    Ideal.ofBits_zero_f32,
    show Ideal.cmp .ogt ((128 : ℝ) : EReal) 0 = 1#1 by simp [Ideal.cmp], select_one,
    hostDivf_apply, broadcastInDim_scalar_apply, count_apply, sumCol_apply, Ideal.div_coe (by norm_num)]
  unfold variance mean
  refine congrArg (· * _) (Finset.sum_congr rfl fun k _ => ?_)
  show centre H x (ix3 b a k) * centre H x (ix3 b a k) = _
  rw [centre_apply]

/-- The normalised rows with scale `g` and shift `e`, and their positive part. -/
def norm (x : FVec Ideal (A3 n 128) .f32) (g e : FVec Ideal A1 .f32) : FVec Ideal (A3 n 128) .f32 :=
  maximumf (addf (mulf (Host.divf (centre H x) (broadcastInDim (A3 n 128) ![0, 1, 2] H.wide
        (Host.sqrt (addf (varCol H x) (broadcastInDim (A3 n 1) ![] H.col (constant A0 .f32 0x3727C5AC#32))))))
      (broadcastInDim (A3 n 128) ![0, 1, 2] H.rows (broadcastInDim ⟨3, ![1, 1, 128]⟩ ![2] H.lift g)))
    (broadcastInDim (A3 n 128) ![0, 1, 2] H.rows (broadcastInDim ⟨3, ![1, 1, 128]⟩ ![2] H.lift e)))
    (broadcastInDim (A3 n 128) ![] H.full (constant A0 .f32 0x00000000#32))

/-- The normalised rows at an index: the row function of `Spec`. -/
theorem norm_apply (x : FVec Ideal (A3 n 128) .f32) (g e : FVec Ideal A1 .f32) (b : Fin 1024) (a : Fin n) (d : Fin 128) :
    norm H x g e (ix3 b a d) = normRelu (fun k => x (ix3 b a k)) (fun k => g (ix1 k)) (fun k => e (ix1 k)) d := by
  show max (Ideal.div (centre H x (ix3 b a d)) (broadcastInDim (A3 n 128) ![0, 1, 2] H.wide
        (Host.sqrt (addf (varCol H x) (broadcastInDim (A3 n 1) ![] H.col (constant A0 .f32 0x3727C5AC#32)))) (ix3 b a d))
      * broadcastInDim (A3 n 128) ![0, 1, 2] H.rows (broadcastInDim ⟨3, ![1, 1, 128]⟩ ![2] H.lift g) (ix3 b a d)
      + broadcastInDim (A3 n 128) ![0, 1, 2] H.rows (broadcastInDim ⟨3, ![1, 1, 128]⟩ ![2] H.lift e) (ix3 b a d))
    (broadcastInDim (A3 n 128) ![] H.full (constant (F := Ideal) A0 .f32 0x00000000#32) (ix3 b a d)) = _
  rw [rows_apply H, rows_apply H, wide_apply H, broadcastInDim_scalar_apply, centre_apply, constant_apply,
    Ideal.ofBits_zero_f32]
  show max (Ideal.div _ (Ideal.sqrt (varCol H x (ix3 b a (0 : Fin 1))
    + broadcastInDim (A3 n 1) ![] H.col (constant (F := Ideal) A0 .f32 0x3727C5AC#32) (ix3 b a (0 : Fin 1)))) * _ + _) 0 = _
  rw [varCol_apply, broadcastInDim_scalar_apply, constant_apply]
  exact congrArg (fun t => max (t * g (ix1 d) + e (ix1 d)) 0) (div_sqrt _ (variance_nonneg _))

/-- The gate's logistic function of an affine map `z`, and the mixture of two arrays by it. -/
def mix (z x y : FVec Ideal (A3 n 128) .f32) : FVec Ideal (A3 n 128) .f32 :=
  have s : FVec Ideal (A3 n 128) .f32 := Host.divf (broadcastInDim (A3 n 128) ![] H.full (constant A0 .f32 0x3F800000#32))
    (addf (broadcastInDim (A3 n 128) ![] H.full (constant A0 .f32 0x3F800000#32)) (Host.exp (Host.negf z)))
  addf (mulf s x) (mulf (subf (broadcastInDim (A3 n 128) ![] H.full (constant A0 .f32 0x3F800000#32)) s) y)

/-- The mixture at an index. -/
theorem mix_apply (z x y : FVec Ideal (A3 n 128) .f32) (i : (A3 n 128).Idx) :
    mix H z x y i = Ideal.logistic (z i) * x i + (1 - Ideal.logistic (z i)) * y i := by
  have h1 : broadcastInDim (A3 n 128) ![] H.full (constant (F := Ideal) A0 .f32 0x3F800000#32) i = (1 : EReal) := by
    rw [broadcastInDim_scalar_apply, constant_apply, Ideal.ofBits_one_f32]
  show Ideal.div (broadcastInDim (A3 n 128) ![] H.full (constant (F := Ideal) A0 .f32 0x3F800000#32) i)
      (broadcastInDim (A3 n 128) ![] H.full (constant (F := Ideal) A0 .f32 0x3F800000#32) i + Ideal.exp (-(z i))) * x i
    + (broadcastInDim (A3 n 128) ![] H.full (constant (F := Ideal) A0 .f32 0x3F800000#32) i
      - Ideal.div (broadcastInDim (A3 n 128) ![] H.full (constant (F := Ideal) A0 .f32 0x3F800000#32) i)
      (broadcastInDim (A3 n 128) ![] H.full (constant (F := Ideal) A0 .f32 0x3F800000#32) i + Ideal.exp (-(z i)))) * y i = _
  rw [h1]
  rfl

/-- An array plus a tenth of another. -/
def bump (x y : FVec Ideal (A3 n 128) .f32) : FVec Ideal (A3 n 128) .f32 :=
  addf x (mulf (broadcastInDim (A3 n 128) ![] H.full (constant A0 .f32 0x3DCCCCCD#32)) y)

/-- Read at an index. -/
theorem bump_apply (x y : FVec Ideal (A3 n 128) .f32) (i : (A3 n 128).Idx) : bump H x y i = x i + tenth * y i := by
  show x i + broadcastInDim (A3 n 128) ![] H.full (constant (F := Ideal) A0 .f32 0x3DCCCCCD#32) i * y i = _
  rw [broadcastInDim_scalar_apply]
  rfl

/-- Two arrays side by side, read at an index in the first. -/
theorem join_left (x y : FVec Ideal (A3 n 128) .f32)
    (h : Shape.Concatenates [A3 n 128, A3 n 128] (A3 n 256) 2) (b : Fin 1024) (a : Fin n) (k : Fin 128) :
    concatenate (A3 n 256) 2 [⟨A3 n 128, x⟩, ⟨A3 n 128, y⟩] h (ix3 b a (Fin.castAdd 128 k)) = x (ix3 b a k) :=
  concatenate_pair_apply_left 2 x y h _ rfl (ix3 b a k) fun c => match c with
    | ⟨0, _⟩ => rfl
    | ⟨1, _⟩ => rfl
    | ⟨2, _⟩ => rfl

/-- Two arrays side by side, read at an index in the second. -/
theorem join_right (x y : FVec Ideal (A3 n 128) .f32)
    (h : Shape.Concatenates [A3 n 128, A3 n 128] (A3 n 256) 2) (b : Fin 1024) (a : Fin n) (k : Fin 128) :
    concatenate (A3 n 256) 2 [⟨A3 n 128, x⟩, ⟨A3 n 128, y⟩] h (ix3 b a (Fin.natAdd 128 k)) = y (ix3 b a k) :=
  concatenate_pair_apply_right 2 x y h _ rfl rfl (ix3 b a k)
    (fun c hc => match c, hc with
      | ⟨0, _⟩, _ => rfl
      | ⟨1, _⟩, _ => rfl
      | ⟨2, _⟩, hc => absurd rfl hc) (by show k.val + 128 = 128 + k.val; omega)

end Cert.Encoder.Host

end
-- ==== Proof.RefLayers.lean ====
/- The reference's stages as the layers of `HostLayer`: which layer each stage is, and the affine maps between them. -/
module

public import proofs.«01_k».proof.Proof.HostLayer
public import proofs.«01_k».proof.Proof.Gen.ReferenceIdeal.Read

@[expose] public section

noncomputable section

namespace Cert.ReferenceIdeal.Layers

open Cert.ReferenceIdeal Cert.ReferenceIdeal.Gen Cert.ReferenceIdeal.Read Cert.Encoder
open Idealize.ShloMosaic Idealize.ShloMosaic.ValueIdx
open scoped BigOperators

/-- The atoms' features of all molecules. -/
abbrev FineT : Type := (⟨S1024x150x128, .f32⟩ : BufTy).Contents (Elt Ideal)
/-- The coarse nodes' features of all molecules. -/
abbrev CoarseT : Type := (⟨S1024x50x128, .f32⟩ : BufTy).Contents (Elt Ideal)
/-- A square matrix. -/
abbrev SquareT : Type := (⟨S128x128, .f32⟩ : BufTy).Contents (Elt Ideal)
/-- A matrix of 256 rows. -/
abbrev TallT : Type := (⟨S256x128, .f32⟩ : BufTy).Contents (Elt Ideal)
/-- A vector. -/
abbrev VecT : Type := (⟨S128, .f32⟩ : BufTy).Contents (Elt Ideal)
/-- The words naming the coarse nodes. -/
abbrev NodeT : Type := (⟨S1024x150, .i32⟩ : BufTy).Contents (Elt Ideal)

/-- The shape relations at the atoms. -/
theorem atoms : Host.Facts 150 :=
  ⟨bcast_S_S1024x150x1, bcast_S_S1024x150x128, bcast_S1024x150_S1024x150x1_0_1, bcast_S1024x150x1_S1024x150x128_0_1_2,
    bcast_S128_S1x1x128_2, bcast_S1x1x128_S1024x150x128_0_1_2, reducesTo_S1024x150x128_S1024x150_d2, by decide, h_S_⟩

/-- The shape relations at the coarse nodes. -/
theorem nodes : Host.Facts 50 :=
  ⟨bcast_S_S1024x50x1, bcast_S_S1024x50x128, bcast_S1024x50_S1024x50x1_0_1, bcast_S1024x50x1_S1024x50x128_0_1_2,
    bcast_S128_S1x1x128_2, bcast_S1x1x128_S1024x50x128_0_1_2, reducesTo_S1024x50x128_S1024x50_d2, by decide, h_S_⟩

variable (x0 : FineT) (x1 : CoarseT) (x2 : FineT) (x3 : SquareT) (x4 x5 x6 : VecT) (x7 : SquareT) (x8 x9 x10 : VecT)
  (x11 : TallT) (x12 : VecT) (x13 : TallT) (x14 x15 x16 : VecT) (x17 : NodeT)

/-- The fine-to-coarse layer normalises its affine map. -/
theorem v71_eq : val_main_v71 (F := Ideal) x0 x3 x4 x5 x6 x17
    = Host.norm nodes (val_main_v52 (F := Ideal) x0 x3 x4 x17) x5 x6 := rfl

/-- The coarse-to-fine layer normalises its affine map. -/
theorem v98_eq : val_main_v98 (F := Ideal) x1 x7 x8 x9 x10 x17
    = Host.norm atoms (val_main_v79 (F := Ideal) x1 x7 x8 x17) x9 x10 := rfl

/-- The atoms' gate. -/
theorem v114_eq : val_main_v114 (F := Ideal) x0 x1 x7 x8 x9 x10 x11 x12 x17
    = Host.mix atoms (val_main_v103 (F := Ideal) x0 x1 x7 x8 x9 x10 x11 x12 x17) x0
        (val_main_v98 (F := Ideal) x1 x7 x8 x9 x10 x17) := rfl

/-- The coarse nodes' gate. -/
theorem v130_eq : val_main_v130 (F := Ideal) x0 x1 x3 x4 x5 x6 x11 x12 x17
    = Host.mix nodes (val_main_v119 (F := Ideal) x0 x1 x3 x4 x5 x6 x11 x12 x17) x1
        (val_main_v71 (F := Ideal) x0 x3 x4 x5 x6 x17) := rfl

/-- The first result: the atoms' gated features plus a tenth of their normalised affine map. -/
theorem v157_eq : val_main_v157 (F := Ideal) x0 x1 x2 x7 x8 x9 x10 x11 x12 x13 x14 x15 x16 x17
    = Host.bump atoms (val_main_v114 (F := Ideal) x0 x1 x7 x8 x9 x10 x11 x12 x17)
        (Host.norm atoms (val_main_v135 (F := Ideal) x0 x1 x2 x7 x8 x9 x10 x11 x12 x13 x14 x17) x15 x16) := rfl

/-- The second result: the coarse nodes' gated features plus a tenth of their normalised affine map. -/
theorem v189_eq : val_main_v189 (F := Ideal) x0 x1 x2 x3 x4 x5 x6 x11 x12 x13 x14 x15 x16 x17
    = Host.bump nodes (val_main_v130 (F := Ideal) x0 x1 x3 x4 x5 x6 x11 x12 x17)
        (Host.norm nodes (val_main_v167 (F := Ideal) x0 x1 x2 x3 x4 x5 x6 x11 x12 x13 x14 x17) x15 x16) := rfl

/-- The fine-to-coarse affine map at an index. -/
theorem v52_at (b : Fin 1024) (c : Fin 50) (d : Fin 128) :
    val_main_v52 (F := Ideal) x0 x3 x4 x17 (ix3 b c d)
      = linear (fun k => val_main_v48 (F := Ideal) x0 x17 (ix3 b c k)) (fun k e => x3 (ix2 k e)) (fun e => x4 (ix1 e)) d := by
  rw [val_main_v52_apply, val_main_v49_apply]
  refine congrArg₂ (· + ·) (Finset.sum_congr rfl fun k _ => ?_) (Host.rows_apply nodes x4 b c d)
  rw [eq_ix3 (lidx_main_v49 (ix3 b c d) k), eq_ix2 (ridx_main_v49 (ix3 b c d) k)]
  rfl

/-- The coarse-to-fine affine map at an index. -/
theorem v79_at (b : Fin 1024) (a : Fin 150) (d : Fin 128) :
    val_main_v79 (F := Ideal) x1 x7 x8 x17 (ix3 b a d)
      = linear (fun k => val_main_v75 (F := Ideal) x1 x17 (ix3 b a k)) (fun k e => x7 (ix2 k e)) (fun e => x8 (ix1 e)) d := by
  rw [val_main_v79_apply, val_main_v76_apply]
  refine congrArg₂ (· + ·) (Finset.sum_congr rfl fun k _ => ?_) (Host.rows_apply atoms x8 b a d)
  rw [eq_ix3 (lidx_main_v76 (ix3 b a d) k), eq_ix2 (ridx_main_v76 (ix3 b a d) k)]
  rfl

/-- The sum over the 256 columns of two arrays side by side against the rows of a tall matrix, plus a bias: the joint
    affine map of the two rows. -/
theorem pair_of_join {n : ℕ} (x y : FVec Ideal (Host.A3 n 128) .f32) (W : TallT) (v : VecT)
    (h : Shape.Concatenates [Host.A3 n 128, Host.A3 n 128] (Host.A3 n 256) 2) (b : Fin 1024) (a : Fin n) (d : Fin 128) :
    (∑ k : Fin 256, concatenate (Host.A3 n 256) 2 [⟨Host.A3 n 128, x⟩, ⟨Host.A3 n 128, y⟩] h (ix3 b a k) * W (ix2 k d))
        + v (ix1 d)
      = linearPair (fun k => x (ix3 b a k)) (fun k => y (ix3 b a k)) (fun k e => W (ix2 k e)) (fun e => v (ix1 e)) d := by
  rw [sum_256]
  simp only [Host.join_left, Host.join_right]
  rfl

/-- The atoms' gate map at an index. -/
theorem v103_at (b : Fin 1024) (a : Fin 150) (d : Fin 128) :
    val_main_v103 (F := Ideal) x0 x1 x7 x8 x9 x10 x11 x12 x17 (ix3 b a d)
      = linearPair (fun k => x0 (ix3 b a k)) (fun k => val_main_v98 (F := Ideal) x1 x7 x8 x9 x10 x17 (ix3 b a k))
          (fun k e => x11 (ix2 k e)) (fun e => x12 (ix1 e)) d := by
  rw [val_main_v103_apply, val_main_v100_apply, ← pair_of_join _ _ _ _ concatenates_S1024x150x128_S1024x150x128_S1024x150x256_d2]
  refine congrArg₂ (· + ·) (Finset.sum_congr rfl fun k _ => ?_) (Host.rows_apply atoms x12 b a d)
  rw [eq_ix3 (lidx_main_v100 (ix3 b a d) k), eq_ix2 (ridx_main_v100 (ix3 b a d) k)]
  rfl

/-- The coarse nodes' gate map at an index. -/
theorem v119_at (b : Fin 1024) (c : Fin 50) (d : Fin 128) :
    val_main_v119 (F := Ideal) x0 x1 x3 x4 x5 x6 x11 x12 x17 (ix3 b c d)
      = linearPair (fun k => x1 (ix3 b c k)) (fun k => val_main_v71 (F := Ideal) x0 x3 x4 x5 x6 x17 (ix3 b c k))
          (fun k e => x11 (ix2 k e)) (fun e => x12 (ix1 e)) d := by
  rw [val_main_v119_apply, val_main_v116_apply, ← pair_of_join _ _ _ _ concatenates_S1024x50x128_S1024x50x128_S1024x50x256_d2]
  refine congrArg₂ (· + ·) (Finset.sum_congr rfl fun k _ => ?_) (Host.rows_apply nodes x12 b c d)
  rw [eq_ix3 (lidx_main_v116 (ix3 b c d) k), eq_ix2 (ridx_main_v116 (ix3 b c d) k)]
  rfl

/-- The atoms' update map at an index. -/
theorem v135_at (b : Fin 1024) (a : Fin 150) (d : Fin 128) :
    val_main_v135 (F := Ideal) x0 x1 x2 x7 x8 x9 x10 x11 x12 x13 x14 x17 (ix3 b a d)
      = linearPair (fun k => val_main_v114 (F := Ideal) x0 x1 x7 x8 x9 x10 x11 x12 x17 (ix3 b a k)) (fun k => x2 (ix3 b a k))
          (fun k e => x13 (ix2 k e)) (fun e => x14 (ix1 e)) d := by
  rw [val_main_v135_apply, val_main_v132_apply, ← pair_of_join _ _ _ _ concatenates_S1024x150x128_S1024x150x128_S1024x150x256_d2]
  refine congrArg₂ (· + ·) (Finset.sum_congr rfl fun k _ => ?_) (Host.rows_apply atoms x14 b a d)
  rw [eq_ix3 (lidx_main_v132 (ix3 b a d) k), eq_ix2 (ridx_main_v132 (ix3 b a d) k)]
  rfl

/-- The coarse nodes' update map at an index. -/
theorem v167_at (b : Fin 1024) (c : Fin 50) (d : Fin 128) :
    val_main_v167 (F := Ideal) x0 x1 x2 x3 x4 x5 x6 x11 x12 x13 x14 x17 (ix3 b c d)
      = linearPair (fun k => val_main_v130 (F := Ideal) x0 x1 x3 x4 x5 x6 x11 x12 x17 (ix3 b c k))
          (fun k => val_main_v162 (F := Ideal) x2 (ix3 b c k)) (fun k e => x13 (ix2 k e)) (fun e => x14 (ix1 e)) d := by
  rw [val_main_v167_apply, val_main_v164_apply, ← pair_of_join _ _ _ _ concatenates_S1024x50x128_S1024x50x128_S1024x50x256_d2]
  refine congrArg₂ (· + ·) (Finset.sum_congr rfl fun k _ => ?_) (Host.rows_apply nodes x14 b c d)
  rw [eq_ix3 (lidx_main_v164 (ix3 b c d) k), eq_ix2 (ridx_main_v164 (ix3 b c d) k)]
  rfl

/-- The mean of the global features over a molecule's atoms, repeated for its coarse nodes. -/
theorem v162_at (b : Fin 1024) (c : Fin 50) (d : Fin 128) :
    val_main_v162 (F := Ideal) x2 (ix3 b c d) = (∑ a : Fin 150, x2 (ix3 b a d)) * ((1 / 150 : ℝ) : EReal) := by
  rw [val_main_v162_apply, val_main_v161_apply, val_main_v159_apply, val_main_v158_apply, val_main_v160_apply,
    val_main_cst_33_apply, val_main_cst_32_apply]
  simp only [Ideal.ofBits_def, Ideal.ofBits_zero_f32, zero_add, Ideal.hostDivf_def, ofBits_150]
  rw [Ideal.div_coe (by norm_num)]
  refine congrArg (· * _) (Finset.sum_congr rfl fun a _ => congrArg x2 ?_)
  exact eq_ix3 _

end Cert.ReferenceIdeal.Layers

end
-- ==== Proof.RefIndex.lean ====
/- The reference's index words: an atom's word kept inside 0 … 49, the mask of the words that were inside already, and
   the pooling of atoms into coarse nodes by those words. -/
module

public import proofs.«01_k».proof.Proof.RefLayers
public import Idealize.ShloMosaic.Lib.Routing.OpsPair

@[expose] public section

noncomputable section

namespace Cert.ReferenceIdeal.Layers

open Cert.ReferenceIdeal Cert.ReferenceIdeal.Gen Cert.ReferenceIdeal.Read Cert.Encoder
open Idealize.ShloMosaic Idealize.ShloMosaic.ValueIdx
open scoped BigOperators

/-! ## One word -/

/-- A word kept inside 0 … 49. -/
def place (w : BitVec 32) : BitVec 32 := IntOp.minsi 49#32 (IntOp.maxsi 0#32 w)

/-- One where the word is inside 0 … 49, zero elsewhere. -/
def inside (w : BitVec 32) : EReal :=
  FloatOps.uitofp (F := Ideal) .f32 (IntOp.andi (IntOp.cmpi .sge w 0#32) (IntOp.cmpi .slt w 50#32))

/-- A signed word's comparison, as one of integers. -/
theorem slt_iff (x y : BitVec 32) : x.slt y = true ↔ x.toInt < y.toInt := by
  rw [BitVec.slt_eq_decide, decide_eq_true_iff]

/-- A signed word's weak comparison, as one of integers. -/
theorem sle_iff (x y : BitVec 32) : x.sle y = true ↔ x.toInt ≤ y.toInt := by
  rw [BitVec.sle_eq_decide, decide_eq_true_iff]

/-- A kept word is a number of 0 … 49. -/
theorem place_range (w : BitVec 32) : 0 ≤ (place w).toInt ∧ (place w).toInt < 50 := by
  unfold place IntOp.minsi IntOp.maxsi
  simp only [slt_iff]
  have h0 : (0#32 : BitVec 32).toInt = 0 := by decide
  have h49 : (49#32 : BitVec 32).toInt = 49 := by decide
  split <;> split <;> constructor <;> omega

/-- A word inside is kept as it is. -/
theorem place_of_inside (w : BitVec 32) (h : 0 ≤ w.toInt ∧ w.toInt < 50) : place w = w := by
  unfold place IntOp.minsi IntOp.maxsi
  simp only [slt_iff]
  have h0 : (0#32 : BitVec 32).toInt = 0 := by decide
  have h49 : (49#32 : BitVec 32).toInt = 49 := by decide
  by_cases hw : w.toInt < (0#32 : BitVec 32).toInt
  · omega
  · rw [if_neg hw]
    by_cases h9 : (49#32 : BitVec 32).toInt < w.toInt
    · omega
    · rw [if_neg h9]

/-- The mask of a word inside is one. -/
theorem inside_one (w : BitVec 32) (h : 0 ≤ w.toInt ∧ w.toInt < 50) : inside w = 1 := by
  have h1 : (0#32 : BitVec 32).sle w = true := (sle_iff _ _).2 (by simpa using h.1)
  have h2 : w.slt 50#32 = true := (slt_iff _ _).2 (by simpa using h.2)
  unfold inside IntOp.andi IntOp.cmpi
  simp only [h1, h2]
  show (((BitVec.ofBool true &&& BitVec.ofBool true).toNat : ℝ) : EReal) = 1
  simp

/-- The mask of a word outside is zero. -/
theorem inside_zero (w : BitVec 32) (h : ¬(0 ≤ w.toInt ∧ w.toInt < 50)) : inside w = 0 := by
  have : (IntOp.andi (IntOp.cmpi .sge w 0#32) (IntOp.cmpi .slt w 50#32) : BitVec 1) = 0#1 := by
    unfold IntOp.andi IntOp.cmpi
    simp only
    by_cases h1 : (0#32 : BitVec 32).sle w = true
    · have h2 : w.slt 50#32 = false := by
        by_contra hc
        rw [Bool.not_eq_false] at hc
        exact h ⟨by simpa using (sle_iff _ _).1 h1, by simpa using (slt_iff _ _).1 hc⟩
      rw [h2]; simp
    · rw [Bool.not_eq_true] at h1
      rw [h1]; simp
  unfold inside
  rw [this]
  show (((0#1 : BitVec 1).toNat : ℝ) : EReal) = 0
  simp

/-- A word is coarse node `c` exactly when it reads, signed, as `c`. -/
theorem word_iff (w : BitVec 32) (c : Fin 50) : w = BitVec.ofNat 32 c.val ↔ w.toInt = c.val := by
  have hc := c.isLt
  have hn : (BitVec.ofNat 32 c.val).toInt = c.val := by
    rw [BitVec.toInt_eq_toNat_of_lt (by rw [BitVec.toNat_ofNat]; omega), BitVec.toNat_ofNat]
    omega
  exact ⟨fun h => by rw [h, hn], fun h => BitVec.eq_of_toInt_eq (by rw [h, hn])⟩

/-- The mask where the kept word is `c`: one exactly where the word itself names `c`. -/
theorem inside_at (w : BitVec 32) (c : Fin 50) : (if (place w).toInt = c.val then inside w else 0) = member w c := by
  have hc := c.isLt
  unfold member
  by_cases h : 0 ≤ w.toInt ∧ w.toInt < 50
  · rw [place_of_inside w h, inside_one w h, if_congr (word_iff w c).symm rfl rfl]
  · rw [inside_zero w h, ite_self, if_neg]
    rw [word_iff]
    omega

/-! ## The stages that hold words -/

variable (x0 : FineT) (x1 : CoarseT) (x17 : NodeT)

/-- The kept words. -/
theorem v5_at (b : Fin 1024) (a : Fin 150) : val_main_v5 (F := Ideal) x17 (ix2 b a) = place (x17 (ix2 b a)) := by
  rw [val_main_v5_apply, val_main_call0_v2_apply, val_main_call0_v4_apply, val_main_call0_v1_apply]
  rfl

/-- The mask. -/
theorem v6_at (b : Fin 1024) (a : Fin 150) : val_main_v6 (F := Ideal) x17 (ix2 b a) = inside (x17 (ix2 b a)) := by
  rw [val_main_v6_apply, val_main_v4_apply, val_main_v1_apply, val_main_v3_apply, val_main_v0_apply, val_main_v2_apply]
  rfl

/-- The mask repeated along the features. -/
theorem v11_at (b : Fin 1024) (a : Fin 150) (d : Fin 128) :
    val_main_v11 (F := Ideal) x17 (ix3 b a d) = inside (x17 (ix2 b a)) := by
  rw [val_main_v11_apply, val_main_v7_apply, ← v6_at, eq_ix2 (idx_main_v7 _)]
  rfl

/-- A non-negative word is not wrapped. -/
theorem wrap_of_nonneg (w v : BitVec 32) (h : 0 ≤ w.toInt) : Scalar.select (IntOp.cmpi .slt w 0#32) v w = w := by
  have : w.slt 0#32 = false := by
    by_contra hc
    rw [Bool.not_eq_false] at hc
    have := (slt_iff _ _).1 hc
    simp at this
    omega
  unfold IntOp.cmpi
  simp only [this]
  exact select_zero _ _

/-- The row words: a molecule's own number. -/
theorem v17_at (b : Fin 1024) : val_main_v17 (F := Ideal) (ix2 b (0 : Fin 1)) = BitVec.ofNat 32 b.val := by
  rw [val_main_v17_apply, val_main_v14_apply, val_main_v13_apply]
  have : val_main_v9 (F := Ideal) (ix2 b (0 : Fin 1)) = BitVec.ofNat 32 b.val := by
    rw [val_main_v9_apply, val_main_v8_apply]
  rw [this]
  refine wrap_of_nonneg _ _ ?_
  have hb := b.isLt
  rw [BitVec.toInt_eq_toNat_of_lt (by rw [BitVec.toNat_ofNat]; omega)]
  omega

/-- The row words, read signed. -/
theorem row_toInt (b : Fin 1024) : (BitVec.ofNat 32 b.val).toInt = b.val := by
  have hb := b.isLt
  rw [BitVec.toInt_eq_toNat_of_lt (by rw [BitVec.toNat_ofNat]; omega), BitVec.toNat_ofNat]
  omega

/-- The words by which the updates are placed: the molecule's number, then the kept word. -/
theorem v26_at (b : Fin 1024) (a : Fin 150) :
    val_main_v26 (F := Ideal) x17 (ix3 b a (0 : Fin 2)) = BitVec.ofNat 32 b.val
      ∧ val_main_v26 (F := Ideal) x17 (ix3 b a (1 : Fin 2)) = place (x17 (ix2 b a)) := by
  unfold val_main_v26
  constructor
  · rw [concatenate_pair_apply_left (t := S1024x150x2) (s₁ := S1024x150x1) (s₂ := S1024x150x1) 2 _ _ _
      (ix3 b a (0 : Fin 2)) rfl (ix3 b a (0 : Fin 1)) fun c => match c with
        | ⟨0, _⟩ => rfl
        | ⟨1, _⟩ => rfl
        | ⟨2, _⟩ => rfl]
    rw [val_main_v24_apply, val_main_v23_apply, ← v17_at]
    exact congrArg _ (eq_ix2 _)
  · rw [concatenate_pair_apply_right (t := S1024x150x2) (s₁ := S1024x150x1) (s₂ := S1024x150x1) 2 _ _ _
      (ix3 b a (1 : Fin 2)) rfl rfl (ix3 b a (0 : Fin 1))
        (fun c hc => match c, hc with
          | ⟨0, _⟩, _ => rfl
          | ⟨1, _⟩, _ => rfl
          | ⟨2, _⟩, hc => absurd rfl hc) rfl]
    have e : idx_main_v25 (ix3 b a (0 : Fin 1)) = ix2 b a := eq_ix2 _
    rw [val_main_v25_apply, e, val_main_v22_apply, val_main_v19_apply, val_main_v18_apply]
    show Scalar.select (IntOp.cmpi .slt (val_main_v5 (F := Ideal) x17 (ix2 b a)) 0#32) _
      (val_main_v5 (F := Ideal) x17 (ix2 b a)) = _
    rw [v5_at]
    exact wrap_of_nonneg _ _ (place_range _).1

/-- The counts are placed by the same words. -/
theorem v43_eq : val_main_v43 (F := Ideal) x17 = val_main_v26 (F := Ideal) x17 := rfl

/-! ## Pooling -/

/-- Where an update of an atom's feature lands: its molecule, the word it is placed by, its column. -/
theorem lands_feature (idx : IVec S1024x150x2 32) (p : BitVec 32) (b' : Fin 1024) (a : Fin 150) (d' : Fin 128)
    (h0 : idx (ix3 b' a (0 : Fin 2)) = BitVec.ofNat 32 b'.val) (h1 : idx (ix3 b' a (1 : Fin 2)) = p)
    (b : Fin 1024) (c : Fin 50) (d : Fin 128) :
    scatter_S1024x50x128_S1024x150x2_S1024x150x128_2_01_01_2.resultIdx? (ix3 b' a d') idx = some (ix3 b c d)
      ↔ b' = b ∧ p.toInt = c.val ∧ d' = d := by
  have i0 : scatter_S1024x50x128_S1024x150x2_S1024x150x128_2_01_01_2.siIdx (ix3 b' a d') ⟨0, by decide⟩
      = ix3 b' a (0 : Fin 2) := funext fun q => match q with
        | ⟨0, _⟩ => rfl
        | ⟨1, _⟩ => rfl
        | ⟨2, _⟩ => rfl
  have i1 : scatter_S1024x50x128_S1024x150x2_S1024x150x128_2_01_01_2.siIdx (ix3 b' a d') ⟨1, by decide⟩
      = ix3 b' a (1 : Fin 2) := funext fun q => match q with
        | ⟨0, _⟩ => rfl
        | ⟨1, _⟩ => rfl
        | ⟨2, _⟩ => rfl
  have s0 : scatter_S1024x50x128_S1024x150x2_S1024x150x128_2_01_01_2.start (ix3 b' a d') idx 0 = b'.val :=
    ((congrArg (fun i => (idx i).toInt) i0).trans (congrArg BitVec.toInt h0)).trans (row_toInt b')
  have s1 : scatter_S1024x50x128_S1024x150x2_S1024x150x128_2_01_01_2.start (ix3 b' a d') idx 1 = p.toInt :=
    (congrArg (fun i => (idx i).toInt) i1).trans (congrArg BitVec.toInt h1)
  have s2 : scatter_S1024x50x128_S1024x150x2_S1024x150x128_2_01_01_2.start (ix3 b' a d') idx 2 = 0 := rfl
  have w0 : scatter_S1024x50x128_S1024x150x2_S1024x150x128_2_01_01_2.window (ix3 b' a d') 0 = 0 := rfl
  have w1 : scatter_S1024x50x128_S1024x150x2_S1024x150x128_2_01_01_2.window (ix3 b' a d') 1 = 0 := rfl
  have w2 : scatter_S1024x50x128_S1024x150x2_S1024x150x128_2_01_01_2.window (ix3 b' a d') 2 = d'.val := rfl
  rw [Idealize.ShloMosaic.Routing.resultIdx?_eq_some]
  constructor
  · intro h
    have h0 := h 0
    have h1 := h 1
    have h2 := h 2
    rw [s0, w0] at h0
    rw [s1, w1] at h1
    rw [s2, w2] at h2
    change (b'.val : ℤ) + ((0 : ℕ) : ℤ) = (b.val : ℤ) at h0
    change p.toInt + ((0 : ℕ) : ℤ) = (c.val : ℤ) at h1
    change (0 : ℤ) + (d'.val : ℤ) = (d.val : ℤ) at h2
    exact ⟨Fin.ext (by omega), by omega, Fin.ext (by omega)⟩
  · rintro ⟨rfl, h1, rfl⟩ q
    match q with
    | ⟨0, _⟩ => exact (congrArg₂ (fun (s : ℤ) (w : ℕ) => s + (w : ℤ)) s0 w0).trans (by simp <;> rfl)
    | ⟨1, _⟩ => exact (congrArg₂ (fun (s : ℤ) (w : ℕ) => s + (w : ℤ)) (s1.trans h1) w1).trans (by simp <;> rfl)
    | ⟨2, _⟩ => exact (congrArg₂ (fun (s : ℤ) (w : ℕ) => s + (w : ℤ)) s2 w2).trans (by simp <;> rfl)

/-- Where an update of a count lands: its molecule and the word it is placed by. -/
theorem lands_count (idx : IVec S1024x150x2 32) (p : BitVec 32) (b' : Fin 1024) (a : Fin 150)
    (h0 : idx (ix3 b' a (0 : Fin 2)) = BitVec.ofNat 32 b'.val) (h1 : idx (ix3 b' a (1 : Fin 2)) = p)
    (b : Fin 1024) (c : Fin 50) :
    scatter_S1024x50_S1024x150x2_S1024x150_n_01_01_2.resultIdx? (ix2 b' a) idx = some (ix2 b c)
      ↔ b' = b ∧ p.toInt = c.val := by
  have i0 : scatter_S1024x50_S1024x150x2_S1024x150_n_01_01_2.siIdx (ix2 b' a) ⟨0, by decide⟩
      = ix3 b' a (0 : Fin 2) := funext fun q => match q with
        | ⟨0, _⟩ => rfl
        | ⟨1, _⟩ => rfl
        | ⟨2, _⟩ => rfl
  have i1 : scatter_S1024x50_S1024x150x2_S1024x150_n_01_01_2.siIdx (ix2 b' a) ⟨1, by decide⟩
      = ix3 b' a (1 : Fin 2) := funext fun q => match q with
        | ⟨0, _⟩ => rfl
        | ⟨1, _⟩ => rfl
        | ⟨2, _⟩ => rfl
  have s0 : scatter_S1024x50_S1024x150x2_S1024x150_n_01_01_2.start (ix2 b' a) idx 0 = b'.val :=
    ((congrArg (fun i => (idx i).toInt) i0).trans (congrArg BitVec.toInt h0)).trans (row_toInt b')
  have s1 : scatter_S1024x50_S1024x150x2_S1024x150_n_01_01_2.start (ix2 b' a) idx 1 = p.toInt :=
    (congrArg (fun i => (idx i).toInt) i1).trans (congrArg BitVec.toInt h1)
  have w0 : scatter_S1024x50_S1024x150x2_S1024x150_n_01_01_2.window (ix2 b' a) 0 = 0 := rfl
  have w1 : scatter_S1024x50_S1024x150x2_S1024x150_n_01_01_2.window (ix2 b' a) 1 = 0 := rfl
  rw [Idealize.ShloMosaic.Routing.resultIdx?_eq_some]
  constructor
  · intro h
    have h0 := h 0
    have h1 := h 1
    rw [s0, w0] at h0
    rw [s1, w1] at h1
    change (b'.val : ℤ) + ((0 : ℕ) : ℤ) = (b.val : ℤ) at h0
    change p.toInt + ((0 : ℕ) : ℤ) = (c.val : ℤ) at h1
    exact ⟨Fin.ext (by omega), by omega⟩
  · rintro ⟨rfl, h1⟩ q
    match q with
    | ⟨0, _⟩ => exact (congrArg₂ (fun (s : ℤ) (w : ℕ) => s + (w : ℤ)) s0 w0).trans (by simp <;> rfl)
    | ⟨1, _⟩ => exact (congrArg₂ (fun (s : ℤ) (w : ℕ) => s + (w : ℤ)) (s1.trans h1) w1).trans (by simp <;> rfl)

/-- The pooled sum at a coarse node: the features of the atoms whose words name it. -/
theorem v27_at (b : Fin 1024) (c : Fin 50) (d : Fin 128) :
    val_main_v27 (F := Ideal) x0 x17 (ix3 b c d) = ∑ a : Fin 150, member (x17 (ix2 b a)) c * x0 (ix3 b a d) := by
  have lands : ∀ (b' : Fin 1024) (a : Fin 150) (d' : Fin 128),
      scatter_S1024x50x128_S1024x150x2_S1024x150x128_2_01_01_2.resultIdx? (ix3 b' a d') (val_main_v26 (F := Ideal) x17)
        = some (ix3 b c d) ↔ b' = b ∧ (place (x17 (ix2 b' a))).toInt = c.val ∧ d' = d := fun b' a d' =>
    lands_feature _ _ b' a d' (v26_at x17 b' a).1 (v26_at x17 b' a).2 b c d
  unfold val_main_v27
  show Ideal.hostScatterAdd _ _ _ _ _ = _
  unfold Ideal.hostScatterAdd
  rw [val_main_v10_apply, val_main_cst_apply, Ideal.ofBits_def, Ideal.ofBits_zero_f32, zero_add, Finset.sum_filter]
  refine (Finset.sum_of_injOn (fun a : Fin 150 => (ix3 b a d : S1024x150x128.Idx)) ?_ (fun _ _ => Finset.mem_coe.2 (Finset.mem_univ _)) ?_ ?_).symm
  · intro a _ a' _ h
    exact congrFun h 1
  · intro j _ hj
    refine if_neg fun hl => hj ?_
    rw [eq_ix3 j] at hl
    obtain ⟨h0, -, h2⟩ := (lands _ _ _).1 hl
    refine ⟨j 1, Finset.mem_coe.2 (Finset.mem_univ _), ?_⟩
    show ix3 b (j 1) d = j
    rw [← h0, ← h2]
    exact (eq_ix3 j).symm
  · intro a _
    rw [val_main_v12_apply, v11_at, ← inside_at]
    by_cases h : (place (x17 (ix2 b a))).toInt = c.val
    · rw [if_pos ((lands b a d).2 ⟨rfl, h, rfl⟩), if_pos h]
      exact mul_comm _ _
    · rw [if_neg fun hl => h ((lands b a d).1 hl).2.1, if_neg h, zero_mul]

/-- The number of atoms whose words name a coarse node. -/
theorem v44_at (b : Fin 1024) (c : Fin 50) :
    val_main_v44 (F := Ideal) x17 (ix2 b c) = ∑ a : Fin 150, member (x17 (ix2 b a)) c := by
  have lands : ∀ (b' : Fin 1024) (a : Fin 150),
      scatter_S1024x50_S1024x150x2_S1024x150_n_01_01_2.resultIdx? (ix2 b' a) (val_main_v26 (F := Ideal) x17)
        = some (ix2 b c) ↔ b' = b ∧ (place (x17 (ix2 b' a))).toInt = c.val := fun b' a =>
    lands_count _ _ b' a (v26_at x17 b' a).1 (v26_at x17 b' a).2 b c
  unfold val_main_v44
  rw [v43_eq]
  show Ideal.hostScatterAdd _ _ _ _ _ = _
  unfold Ideal.hostScatterAdd
  rw [val_main_v28_apply, val_main_cst_7_apply, Ideal.ofBits_def, Ideal.ofBits_zero_f32, zero_add, Finset.sum_filter]
  refine (Finset.sum_of_injOn (fun a : Fin 150 => (ix2 b a : S1024x150.Idx)) ?_ (fun _ _ => Finset.mem_coe.2 (Finset.mem_univ _)) ?_ ?_).symm
  · intro a _ a' _ h
    exact congrFun h 1
  · intro j _ hj
    refine if_neg fun hl => hj ?_
    rw [eq_ix2 j] at hl
    obtain ⟨h0, -⟩ := (lands _ _).1 hl
    refine ⟨j 1, Finset.mem_coe.2 (Finset.mem_univ _), ?_⟩
    show ix2 b (j 1) = j
    rw [← h0]
    exact (eq_ix2 j).symm
  · intro a _
    show _ = if _ then val_main_v6 (F := Ideal) x17 (ix2 b a) else 0
    rw [v6_at, ← inside_at]
    exact if_congr ⟨fun h => (lands b a).2 ⟨rfl, h⟩, fun hl => ((lands b a).1 hl).2⟩ rfl rfl

/-- The pooled mean at an index. -/
theorem v48_at (b : Fin 1024) (c : Fin 50) (d : Fin 128) :
    val_main_v48 (F := Ideal) x0 x17 (ix3 b c d)
      = Ideal.div (∑ a : Fin 150, member (x17 (ix2 b a)) c * x0 (ix3 b a d)) (max (∑ a : Fin 150, member (x17 (ix2 b a)) c) 1) := by
  have e : idx_main_v46 (idx_main_v47 (ix3 b c d)) = ix2 b c := eq_ix2 _
  rw [val_main_v48_apply, v27_at, val_main_v47_apply, val_main_v46_apply, e, val_main_v45_apply, v44_at,
    val_main_call1_v1_apply, val_main_call1_v0_apply, val_main_cst_12_apply, Ideal.ofBits_def, Ideal.ofBits_one_f32]
  show Ideal.div _ (max 1 _) = _
  rw [max_comm]

end Cert.ReferenceIdeal.Layers

end
-- ==== Proof.RefPick.lean ====
/- The reference's pick of a coarse node's features for each atom, and its two results as the functions of `Spec`. -/
module

public import proofs.«01_k».proof.Proof.RefIndex
public import Idealize.ShloMosaic.Lib.ReduceAll

@[expose] public section

noncomputable section

namespace Cert.ReferenceIdeal.Layers

open Cert.ReferenceIdeal Cert.ReferenceIdeal.Gen Cert.ReferenceIdeal.Read Cert.Encoder
open Idealize.ShloMosaic Idealize.ShloMosaic.ValueIdx
open scoped BigOperators

variable (x0 : FineT) (x1 : CoarseT) (x2 : FineT) (x3 : SquareT) (x4 x5 x6 : VecT) (x7 : SquareT) (x8 x9 x10 : VecT)
  (x11 : TallT) (x12 : VecT) (x13 : TallT) (x14 x15 x16 : VecT) (x17 : NodeT)

/-- The words by which the features are picked are the kept words. -/
theorem pick_word (b : Fin 1024) (a : Fin 150) :
    val_main_call4_v4 (F := Ideal) x17 (ix3 b a (0 : Fin 1)) = place (x17 (ix2 b a)) := by
  have e : val_main_v72 (F := Ideal) x17 (ix3 b a (0 : Fin 1)) = place (x17 (ix2 b a)) := by
    rw [val_main_v72_apply, ← v5_at]
    exact congrArg _ (eq_ix2 _)
  rw [val_main_call4_v4_apply, val_main_call4_v1_apply, val_main_call4_v0_apply, val_main_call4_c_apply, e]
  exact wrap_of_nonneg _ _ (place_range _).1

/-- The kept words are inside the coarse nodes, so no pick is masked. -/
theorem pick_unmasked (b : Fin 1024) (a : Fin 150) (d : Fin 128) :
    val_main_call4_v13 (F := Ideal) x17 (ix3 b a d) = 1#1 := by
  rw [val_main_call4_v13_apply]
  unfold val_main_call4_v11
  refine Host.reduce_andi_one _ _ _ _ _ rfl fun i => ?_
  obtain ⟨b', a', z, rfl⟩ : ∃ (b' : Fin 1024) (a' : Fin 150) (z : Fin 1), i = ix3 b' a' z := ⟨i 0, i 1, i 2, eq_ix3 i⟩
  obtain rfl : z = 0 := Subsingleton.elim _ _
  rw [val_main_call4_v10_apply, val_main_call4_v6_apply, val_main_call4_v9_apply, pick_word, val_main_call4_v5_apply,
    val_main_call4_v8_apply, val_main_call4_v7_apply]
  have hp := place_range (x17 (ix2 b' a'))
  have h1 : (0#32 : BitVec 32).sle (place (x17 (ix2 b' a'))) = true := (sle_iff _ _).2 (by simpa using hp.1)
  have h2 : (place (x17 (ix2 b' a'))).sle 49#32 = true := (sle_iff _ _).2 (by
    have : (49#32 : BitVec 32).toInt = 49 := by decide
    omega)
  show IntOp.andi (IntOp.cmpi .sge _ 0#32) (IntOp.cmpi .sle _ 49#32) = _
  unfold IntOp.cmpi
  simp only [h1, h2]
  rfl

/-- A pick reads the row its word names. -/
theorem picked_row (idx : IVec S1024x150x1 32) (b : Fin 1024) (a : Fin 150) (d : Fin 128) (c : Fin 50)
    (h : (idx (ix3 b a (0 : Fin 1))).toInt = c.val) :
    Host.gather gather_S1024x50x128_S1024x150x1_S1024x150x128_2_1_0_0_1_2_11128 x1 idx (ix3 b a d) = x1 (ix3 b c d) := by
  have hc := c.isLt
  have i0 : gather_S1024x50x128_S1024x150x1_S1024x150x128_2_1_0_0_1_2_11128.siIdx (ix3 b a d) ⟨0, by decide⟩
      = ix3 b a (0 : Fin 1) := funext fun q => match q with
        | ⟨0, _⟩ => rfl
        | ⟨1, _⟩ => rfl
        | ⟨2, _⟩ => rfl
  unfold Host.gather
  refine congrArg x1 (funext fun q => Fin.ext ?_)
  match q with
  | ⟨0, _⟩ =>
    show gather_S1024x50x128_S1024x150x1_S1024x150x128_2_1_0_0_1_2_11128.start (ix3 b a d) idx 0
      + gather_S1024x50x128_S1024x150x1_S1024x150x128_2_1_0_0_1_2_11128.batchCoord (ix3 b a d) 0
      + gather_S1024x50x128_S1024x150x1_S1024x150x128_2_1_0_0_1_2_11128.offCoord (ix3 b a d) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S1024x50x128_S1024x150x1_S1024x150x128_2_1_0_0_1_2_11128.start (ix3 b a d) idx 1
      + gather_S1024x50x128_S1024x150x1_S1024x150x128_2_1_0_0_1_2_11128.batchCoord (ix3 b a d) 1
      + gather_S1024x50x128_S1024x150x1_S1024x150x128_2_1_0_0_1_2_11128.offCoord (ix3 b a d) 1 = c.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    have : gather_S1024x50x128_S1024x150x1_S1024x150x128_2_1_0_0_1_2_11128.start (ix3 b a d) idx 1
        = min (idx (ix3 b a (0 : Fin 1))).toInt.toNat 49 :=
      congrArg (fun i => min (idx i).toInt.toNat 49) i0
    rw [this, h]
    omega
  | ⟨2, _⟩ =>
    show gather_S1024x50x128_S1024x150x1_S1024x150x128_2_1_0_0_1_2_11128.start (ix3 b a d) idx 2
      + gather_S1024x50x128_S1024x150x1_S1024x150x128_2_1_0_0_1_2_11128.batchCoord (ix3 b a d) 2
      + gather_S1024x50x128_S1024x150x1_S1024x150x128_2_1_0_0_1_2_11128.offCoord (ix3 b a d) 2 = d.val
    rw [GatherDims.batchCoord_eq_zero _ _ _ (fun h => absurd (List.mem_singleton.mp h) (by decide))]
    have s2 : gather_S1024x50x128_S1024x150x1_S1024x150x128_2_1_0_0_1_2_11128.start (ix3 b a d) idx 2 = 0 := rfl
    have o2 : gather_S1024x50x128_S1024x150x1_S1024x150x128_2_1_0_0_1_2_11128.offCoord (ix3 b a d) 2 = d.val := rfl
    rw [s2, o2]
    omega

/-- The picked features: those of the coarse node the atom's word names, zero where it names none. -/
theorem v75_at (b : Fin 1024) (a : Fin 150) (d : Fin 128) :
    val_main_v75 (F := Ideal) x1 x17 (ix3 b a d) = ∑ c : Fin 50, member (x17 (ix2 b a)) c * x1 (ix3 b c d) := by
  have hp := place_range (x17 (ix2 b a))
  have hc : (place (x17 (ix2 b a))).toInt = ((place (x17 (ix2 b a))).toInt.toNat : ℤ) := by omega
  obtain ⟨c, hc⟩ : ∃ c : Fin 50, (place (x17 (ix2 b a))).toInt = c.val :=
    ⟨⟨(place (x17 (ix2 b a))).toInt.toNat, by omega⟩, hc⟩
  have hv : val_main_v74 (F := Ideal) x17 (ix3 b a d) = inside (x17 (ix2 b a)) := v11_at x17 b a d
  have hg : val_main_call4_v12 (F := Ideal) x1 x17 (ix3 b a d) = x1 (ix3 b c d) :=
    picked_row x1 _ b a d c (by rw [pick_word, hc])
  rw [val_main_v75_apply, val_main_v73_apply, pick_unmasked, select_one, hg, hv]
  rw [Finset.sum_eq_single c]
  · rw [← inside_at, if_pos hc]
    exact mul_comm _ _
  · intro c' _ hne
    rw [← inside_at, if_neg (fun h => hne (Fin.ext (by omega))), zero_mul]
  · exact fun h => absurd (Finset.mem_univ c) h

/-- The weights, as rows. -/
def weights : Weights where
  wPool := fun k e => x3 (ix2 k e)
  bPool := fun e => x4 (ix1 e)
  gPool := fun e => x5 (ix1 e)
  ePool := fun e => x6 (ix1 e)
  wPick := fun k e => x7 (ix2 k e)
  bPick := fun e => x8 (ix1 e)
  gPick := fun e => x9 (ix1 e)
  ePick := fun e => x10 (ix1 e)
  wGate := fun k e => x11 (ix2 k e)
  bGate := fun e => x12 (ix1 e)
  wGlob := fun k e => x13 (ix2 k e)
  bGlob := fun e => x14 (ix1 e)
  gGlob := fun e => x15 (ix1 e)
  eGlob := fun e => x16 (ix1 e)

/-- Molecule `b`, as rows. -/
def molecule (b : Fin 1024) : Molecule where
  node := fun a => x17 (ix2 b a)
  fine := fun a e => x0 (ix3 b a e)
  coarse := fun c e => x1 (ix3 b c e)
  glob := fun a e => x2 (ix3 b a e)

/-- The fine-to-coarse layer at an index. -/
theorem v71_at (b : Fin 1024) (c : Fin 50) (d : Fin 128) :
    val_main_v71 (F := Ideal) x0 x3 x4 x5 x6 x17 (ix3 b c d)
      = (molecule x0 x1 x2 x17 b).toCoarse (weights x3 x4 x5 x6 x7 x8 x9 x10 x11 x12 x13 x14 x15 x16) c d := by
  rw [v71_eq, Host.norm_apply]
  simp only [v52_at, v48_at]
  rfl

/-- The coarse-to-fine layer at an index. -/
theorem v98_at (b : Fin 1024) (a : Fin 150) (d : Fin 128) :
    val_main_v98 (F := Ideal) x1 x7 x8 x9 x10 x17 (ix3 b a d)
      = (molecule x0 x1 x2 x17 b).toFine (weights x3 x4 x5 x6 x7 x8 x9 x10 x11 x12 x13 x14 x15 x16) a d := by
  rw [v98_eq, Host.norm_apply]
  simp only [v79_at, v75_at]
  rfl

/-- The atoms' gated features at an index. -/
theorem v114_at (b : Fin 1024) (a : Fin 150) (d : Fin 128) :
    val_main_v114 (F := Ideal) x0 x1 x7 x8 x9 x10 x11 x12 x17 (ix3 b a d)
      = (molecule x0 x1 x2 x17 b).fineMixed (weights x3 x4 x5 x6 x7 x8 x9 x10 x11 x12 x13 x14 x15 x16) a d := by
  rw [v114_eq, Host.mix_apply]
  simp only [v103_at, v98_at x0 x1 x2 x3 x4 x5 x6 x7 x8 x9 x10 x11 x12 x13 x14 x15 x16 x17]
  rfl

/-- The coarse nodes' gated features at an index. -/
theorem v130_at (b : Fin 1024) (c : Fin 50) (d : Fin 128) :
    val_main_v130 (F := Ideal) x0 x1 x3 x4 x5 x6 x11 x12 x17 (ix3 b c d)
      = (molecule x0 x1 x2 x17 b).coarseMixed (weights x3 x4 x5 x6 x7 x8 x9 x10 x11 x12 x13 x14 x15 x16) c d := by
  rw [v130_eq, Host.mix_apply]
  simp only [v119_at, v71_at x0 x1 x2 x3 x4 x5 x6 x7 x8 x9 x10 x11 x12 x13 x14 x15 x16 x17]
  rfl

/-- The reference's first result at an index. -/
theorem fine_result (b : Fin 1024) (a : Fin 150) (d : Fin 128) :
    val_main_v157 (F := Ideal) x0 x1 x2 x7 x8 x9 x10 x11 x12 x13 x14 x15 x16 x17 (ix3 b a d)
      = (molecule x0 x1 x2 x17 b).fineOut (weights x3 x4 x5 x6 x7 x8 x9 x10 x11 x12 x13 x14 x15 x16) a d := by
  rw [v157_eq, Host.bump_apply, Host.norm_apply]
  simp only [v135_at, v114_at x0 x1 x2 x3 x4 x5 x6 x7 x8 x9 x10 x11 x12 x13 x14 x15 x16 x17]
  rfl

/-- The reference's second result at an index. -/
theorem coarse_result (b : Fin 1024) (c : Fin 50) (d : Fin 128) :
    val_main_v189 (F := Ideal) x0 x1 x2 x3 x4 x5 x6 x11 x12 x13 x14 x15 x16 x17 (ix3 b c d)
      = (molecule x0 x1 x2 x17 b).coarseOut (weights x3 x4 x5 x6 x7 x8 x9 x10 x11 x12 x13 x14 x15 x16) c d := by
  rw [v189_eq, Host.bump_apply, Host.norm_apply]
  simp only [v167_at, v162_at, v130_at x0 x1 x2 x3 x4 x5 x6 x7 x8 x9 x10 x11 x12 x13 x14 x15 x16 x17]
  rfl

end Cert.ReferenceIdeal.Layers

end
-- ==== Proof.RefArrays.lean ====
/- The reference's two result arrays after the run, as functions of the arguments the run starts from. -/
module

public import proofs.«01_k».proof.Proof.RefPick
public import proofs.«01_k».proof.Proof.Gen.ReferenceIdeal.Run

@[expose] public section

noncomputable section

namespace Cert.ReferenceIdeal.Layers

open Cert.ReferenceIdeal Cert.ReferenceIdeal.Gen Cert.ReferenceIdeal.Read Cert.Encoder
open Idealize.ShloMosaic Idealize.ShloMosaic.ValueIdx Idealize.ShloMosaic.StableHlo Idealize.SL.Sem

variable (m : (ℓ : Loc nD τ sig) → Buf (Elt Ideal) ℓ)

/-- Molecule `n` of the reference's arguments. -/
def given (c : Dev nD) (n : Fin 1024) : Molecule :=
  molecule (m ((c.tc : Thread nD τ).loc main_arg0)) (m ((c.tc : Thread nD τ).loc main_arg1))
    (m ((c.tc : Thread nD τ).loc main_arg2)) (m ((c.tc : Thread nD τ).loc main_arg17)) n

/-- The weights of the reference's arguments. -/
def givenWeights (c : Dev nD) : Weights :=
  weights (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11)) (m ((c.tc : Thread nD τ).loc main_arg12))
    (m ((c.tc : Thread nD τ).loc main_arg13)) (m ((c.tc : Thread nD τ).loc main_arg14))
    (m ((c.tc : Thread nD τ).loc main_arg15)) (m ((c.tc : Thread nD τ).loc main_arg16))

/-- The reference's first result as a whole array. -/
def fineArray (c : Dev nD) : FineT :=
  fun y => (given m c (y 0)).fineOut (givenWeights m c) (y 1) (y 2)

/-- The reference's second result as a whole array. -/
def coarseArray (c : Dev nD) : CoarseT :=
  fun y => (given m c (y 0)).coarseOut (givenWeights m c) (y 1) (y 2)

/-- From any arguments the reference ends with the two arrays and keeps its arguments. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v157) = fineArray m c
      ∧ r.2.mem ((c.tc : Thread nD τ).loc main_v189) = coarseArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun _ h c => ⟨(h c).1.trans ?_, (h c).2.1.trans ?_, (h c).2.2⟩)
    (Cert.ReferenceIdeal.Value.run (F := Ideal) m ρ)
  · refine (val_main_v157_eq (launchContents m c)).trans (funext fun y => ?_)
    obtain ⟨b, a, d, rfl⟩ : ∃ (b : Fin 1024) (a : Fin 150) (d : Fin 128), y = ix3 b a d := ⟨_, _, _, eq_ix3 y⟩
    exact fine_result _ _ _ (launchContents m c (Proc.devRef .tc main_arg3)) (launchContents m c (Proc.devRef .tc main_arg4))
      (launchContents m c (Proc.devRef .tc main_arg5)) (launchContents m c (Proc.devRef .tc main_arg6)) _ _ _ _ _ _ _ _ _ _ _ b a d
  · refine (val_main_v189_eq (launchContents m c)).trans (funext fun y => ?_)
    obtain ⟨b, k, d, rfl⟩ : ∃ (b : Fin 1024) (k : Fin 50) (d : Fin 128), y = ix3 b k d := ⟨_, _, _, eq_ix3 y⟩
    exact coarse_result _ _ _ _ _ _ _ (launchContents m c (Proc.devRef .tc main_arg7)) (launchContents m c (Proc.devRef .tc main_arg8))
      (launchContents m c (Proc.devRef .tc main_arg9)) (launchContents m c (Proc.devRef .tc main_arg10)) _ _ _ _ _ _ _ b k d

end Cert.ReferenceIdeal.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArrays
public import proofs.«01_k».proof.Proof.RefArrays
public import Idealize.ShloMosaic.Adequacy
public import Idealize.ShloMosaic.Init

@[expose] public section

noncomputable section

namespace Cert.Proof

open Idealize.ShloMosaic Idealize.SL.Sem Cert.Encoder

/-- The kernel runs, keeps its arguments, and leaves every semaphore at zero. -/
theorem frame_p : Cert.quiescent_Kernel := fun m ρ _ => Cert.Kernel.Gen.frame m ρ

/-- The same of the kernel's idealization. -/
theorem frame_pi : Cert.quiescent_KernelIdeal := fun m ρ _ => Cert.KernelIdeal.Gen.frame m ρ

/-- The same of the reference: it has no semaphores, and its run keeps the arguments. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Layers.run_arrays m ρ)

/-- The one rewrite of the idealization is the named constant, one part in a hundred and fifty. -/
theorem preserves : Cert.preserves_Kernel_KernelIdeal :=
  IdealRules.named_const.statement Cert.KernelIdeal.κ "invA" .f32 0x3BDA740E#32 ((150⁻¹ : ℝ) : EReal) rfl

/-- From equal arguments the kernel and the reference end with equal results, at every index of both. -/
theorem algebraic : Cert.algebraic_KernelIdeal_ReferenceIdeal := by
  intro m ρ m' ρ' _ hagree
  have hM (c : Dev Cert.KernelIdeal.nD) (n : Fin 1024) :
      Cert.ReferenceIdeal.Layers.given m' c n = Cert.KernelIdeal.Slot.launched m c n := by
    obtain ⟨h0, h1, h2, -, -, -, -, -, -, -, -, -, -, -, -, -, -, h17⟩ := hagree c
    unfold Cert.ReferenceIdeal.Layers.given
    rw [h0, h1, h2, h17]
    rfl
  have hW (c : Dev Cert.KernelIdeal.nD) :
      Cert.ReferenceIdeal.Layers.givenWeights m' c = Cert.KernelIdeal.Slot.launchedWeights m c := by
    obtain ⟨-, -, -, h3, h4, h5, h6, h7, h8, h9, h10, h11, h12, h13, h14, h15, h16, -⟩ := hagree c
    unfold Cert.ReferenceIdeal.Layers.givenWeights
    rw [h3, h4, h5, h6, h7, h8, h9, h10, h11, h12, h13, h14, h15, h16]
    rfl
  refine ⟨fun c => Cert.KernelIdeal.Slot.fineResult m c, fun c => Cert.KernelIdeal.Slot.coarseResult m c, ?_, ?_⟩
  · exact (θ_run Cert.KernelIdeal.defs _ _).mono
      (fun _ h c => ⟨(h c).1.trans (Cert.KernelIdeal.Slot.array18 m c),
        (h c).2.1.trans (Cert.KernelIdeal.Slot.array19 m c), (h c).2.2⟩)
      (Cert.KernelIdeal.Value.run_blocks m ρ)
  · exact (θ_run Cert.ReferenceIdeal.defs _ _).mono
      (fun _ h c => ⟨(h c).1.trans (funext fun y => congrArg₂
          (fun (M : Molecule) (W : Weights) => M.fineOut W (y 1) (y 2)) (hM c (y 0)) (hW c)),
        (h c).2.1.trans (funext fun y => congrArg₂
          (fun (M : Molecule) (W : Weights) => M.coarseOut W (y 1) (y 2)) (hM c (y 0)) (hW c)), (h c).2.2⟩)
      (Cert.ReferenceIdeal.Layers.run_arrays m' ρ')

/-- Everything the certificate claims. -/
theorem claim : Cert.Claim := ⟨Cert.Kernel.Gen.facts, Cert.KernelIdeal.Gen.facts, Cert.ReferenceIdeal.Gen.facts,
  frame_p, frame_pi, frame_ri, preserves, algebraic⟩

end Cert.Proof

end
